-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S9x64x256 : Shape := ⟨3, ![9, 64, 256]⟩
abbrev S9 : Shape := ⟨1, ![9]⟩
abbrev S_ : Shape := ⟨0, ![]⟩
abbrev S64x256 : Shape := ⟨2, ![64, 256]⟩
abbrev S64x512 : Shape := ⟨2, ![64, 512]⟩
abbrev S1x64x256 : Shape := ⟨3, ![1, 64, 256]⟩
abbrev S1 : Shape := ⟨1, ![1]⟩

abbrev nBuf : Space → Nat
  | .hbm => 4
  | .vmem => 6
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x256, .f32⟩
  | .local _ .vmem, ⟨4, _⟩ => ⟨S9x64x256, .bf16⟩
  | .local _ .vmem, ⟨5, _⟩ => ⟨S9x64x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_26 : BitVec 32 := 1#32
  let v28 : BitVec 32 := Scalar.muli v3 c1_i32_26
  let v29 : BitVec 32 := Scalar.addi c0_i32_27 v28
  v29.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_48 : BitVec 32 := 1#32
  let v53 : BitVec 32 := Scalar.muli v3 c1_i32_48
  let v54 : BitVec 32 := Scalar.addi c0_i32_49 v53
  v54.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_70 : BitVec 32 := 1#32
  let v78 : BitVec 32 := Scalar.muli v3 c1_i32_70
  let v79 : BitVec 32 := Scalar.addi c0_i32_71 v78
  v79.toNat
def k0_dev7 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_91 : BitVec 32 := 1#32
  let v103 : BitVec 32 := Scalar.muli v3 c1_i32_91
  let v104 : BitVec 32 := Scalar.addi c0_i32_92 v103
  v104.toNat
def k0_dev8 (d0 : Dev nD) : Nat :=
  let c0_i32_101 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_100 : BitVec 32 := 1#32
  let v113 : BitVec 32 := Scalar.muli v4 c1_i32_100
  let v114 : BitVec 32 := Scalar.addi c0_i32_101 v113
  v114.toNat
def k0_dev9 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_109 : BitVec 32 := 1#32
  let v123 : BitVec 32 := Scalar.muli v5 c1_i32_109
  let v124 : BitVec 32 := Scalar.addi c0_i32_110 v123
  v124.toNat
def k0_dev10 (d0 : Dev nD) : Nat :=
  let c0_i32_148 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_147 : BitVec 32 := 1#32
  let v158 : BitVec 32 := Scalar.muli v4 c1_i32_147
  let v159 : BitVec 32 := Scalar.addi c0_i32_148 v158
  v159.toNat
def k0_dev11 (d0 : Dev nD) : Nat :=
  let c0_i32_186 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_185 : BitVec 32 := 1#32
  let v193 : BitVec 32 := Scalar.muli v4 c1_i32_185
  let v194 : BitVec 32 := Scalar.addi c0_i32_186 v193
  v194.toNat
def k0_dev12 (d0 : Dev nD) : Nat :=
  let c0_i32_223 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_222 : BitVec 32 := 1#32
  let v228 : BitVec 32 := Scalar.muli v4 c1_i32_222
  let v229 : BitVec 32 := Scalar.addi c0_i32_223 v228
  v229.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x256 : Shape := ⟨2, ![256, 256]⟩
abbrev S256x2048 : Shape := ⟨2, ![256, 2048]⟩
abbrev S2048x256 : Shape := ⟨2, ![2048, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x2048, .f32⟩
  | .hbm, ⟨2, _⟩ => ⟨S2048x256, .f32⟩
  | .hbm, ⟨3, _⟩ => ⟨S256x2048, .f32⟩
  | .hbm, ⟨4, _⟩ => ⟨S_, .f32⟩
  | .hbm, ⟨5, _⟩ => ⟨S256x2048, .f32⟩
  | .hbm, ⟨6, _⟩ => ⟨S256x2048, .f32⟩
  | .hbm, ⟨7, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.SameText.lean ====
/-
  The kernel and its ideal reading are one text: no operation was rewritten between them, so at any float values their
  tables of bodies are equal, label by label.
-/
module

public import proofs.«01_k».proof.Proof.Gen.Kernel
public import proofs.«01_k».proof.Proof.Gen.KernelIdeal

@[expose] public section

noncomputable section

namespace Cert.AllReduce

open Idealize.ShloMosaic

variable {F : FTy → Type} [FloatOps F]

/-- The two programs' tables of bodies are equal. -/
theorem defs_same : (Cert.KernelIdeal.defs (F := F)) = Cert.Kernel.defs (F := F) := congrArg (Pipeline.defs _) (by
  unfold Cert.KernelIdeal.defs₀ Cert.Kernel.defs₀
  refine congrArg Defs.onTc ?_
  funext l a
  obtain ⟨l, h⟩ := l
  cases l
  · rfl
  · exact absurd h (by omega))

end Cert.AllReduce

end
-- ==== Proof.Memory.lean ====
/-
# Stepping loads, stores and block transfers by what a memref is owned at

The kernel touches its output in row chunks and its two scratch arrays in slots. Each chunk and each slot is a
slice of a whole buffer, owned at a known value (`owns`). The lemmas here step one memory operation of a program
from such ownership: nothing in them depends on which chunk or slot it is.
-/
module

public import proofs.«01_k».proof.Proof.Gen.KernelIdeal
public import Idealize.ShloMosaic.Lib.Memref
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The names of a round's duties: a barrier cell's round has three, a transfer's one. -/
abbrev Duty : Type := Fin 3
/-- The protocol's ghost state. -/
abbrev UB : Type := URounds (GSem nD τ sig) Duty
/-- The pipeline's ghost state beside the protocol's. -/
abbrev UU : Type := UR sig nD τ × UB

local notation "𝕄" => MT nD τ sig Unit (Elt F) ℕ UU ℕ

abbrev 𝒱₀ : Variants := Variants.none

section Steps

variable (c : Dev nD) {α : Type} {s : Shape} {e : EltTy} {M : Memref sig .tc .vmem s e} {r : Rect s}

/-- The weakest precondition of a kernel-body program on device `c`. -/
abbrev run (p : Prog (TpuEff nD τ sig (Elt F) Λ₀ .tc) α) (Q : α → sProp 𝕄) : sProp 𝕄 :=
  wp frame (wpE (defs₀ (F := F)) 𝒱₀ (c : Thread nD τ) none) Set.univ p Q

/-- A load of a slice that is owned at `X` continues at `X`. -/
theorem load_slice (hr : ∀ a, r.stride a = 1) {hl : M.view.LoadsAt r.toLoadRect} {q : PosShare TreeShare}
    {X : r.shape.Idx → Elt F e} {k : (r.shape.Idx → Elt F e) → Prog (TpuEff nD τ sig (Elt F) Λ₀ .tc) α} {Q : α → sProp 𝕄} :
    (owns (c : Thread nD τ) (M.slice r hr) q X : sProp 𝕄)
      ⊢ iprop((owns (c : Thread nD τ) (M.slice r hr) q X -∗ run c (k X) Q) -∗ run c (.op (.load M r.toLoadRect hl) k) Q) := by
  unfold owns
  iintro ⟨%f, %hf, H⟩ Hk
  iapply (wp_load_rect 𝒱₀ (c : Thread nD τ) none Set.univ (m := M) (r := r) (S := (M.access r).set) (Finset.Subset.refl _)) $$ H
  iintro H
  rw [show (M.access r).read (Elt F) f = X from hf]
  iapply Hk
  iexists f
  isplitr
  · ipureintro; exact hf
  · iexact H

/-- A load through a rectangle of a memref that is owned at `X` as a whole continues at `X` on that rectangle. -/
theorem load_within {hl : M.view.LoadsAt r.toLoadRect} {q : PosShare TreeShare}
    {X : s.Idx → Elt F e} {k : (r.shape.Idx → Elt F e) → Prog (TpuEff nD τ sig (Elt F) Λ₀ .tc) α} {Q : α → sProp 𝕄} :
    (owns (c : Thread nD τ) M q X : sProp 𝕄)
      ⊢ iprop((owns (c : Thread nD τ) M q X -∗ run c (k fun j => X (r.emb j)) Q) -∗ run c (.op (.load M r.toLoadRect hl) k) Q) := by
  unfold owns
  iintro ⟨%f, %hf, H⟩ Hk
  iapply (wp_load_rect 𝒱₀ (c : Thread nD τ) none Set.univ (m := M) (r := r) (S := M.view.set) (View.set_slice_subset _ _)) $$ H
  iintro H
  rw [show (M.access r).read (Elt F) f = fun j => X (r.emb j) from by rw [← hf]; rfl]
  iapply Hk
  iexists f
  isplitr
  · ipureintro; exact hf
  · iexact H

/-- A store over a whole slice leaves it owned at what was stored. -/
theorem store_slice (hr : ∀ a, r.stride a = 1) {w : r.shape.Idx → Elt F e} {hx : (M.access r).Stores Finset.univ}
    {hm : (Finset.univ : Finset r.shape.Idx) = Finset.univ ∨ ∀ a, r.stride a = 1}
    {X : r.shape.Idx → Elt F e} {k : PUnit → Prog (TpuEff nD τ sig (Elt F) Λ₀ .tc) α} {Q : α → sProp 𝕄} :
    (owns (c : Thread nD τ) (M.slice r hr) fullShare X : sProp 𝕄)
      ⊢ iprop((owns (c : Thread nD τ) (M.slice r hr) fullShare w -∗ run c (k ⟨⟩) Q)
          -∗ run c (.op (.store M r w Finset.univ hx hm) k) Q) := by
  unfold owns
  iintro ⟨%f, %hf, H⟩ Hk
  iapply (wp_store 𝒱₀ (c : Thread nD τ) none Set.univ (m := M) (r := r) (Mk := Finset.univ)
    (S := (M.access r).set) (show (M.access r).setOn Finset.univ ⊆ _ from Finset.Subset.refl _)) $$ H
  iintro H
  iapply Hk
  iexists ((M.access r).write (Elt F) f w Finset.univ)
  isplitr
  · ipureintro; exact View.read_write_univ _ _
  · iexact H

end Steps

/-- Two memrefs of one shape seen through the same re-indexing: writing what the one reads makes the other read
    what the one did. -/
theorem read_write_squeeze {κ κ' : Kind} {sp sp' : Space} {s s' : Shape} {e : EltTy} (A : Memref sig κ sp s e) (B : Memref sig κ' sp' s e)
    (h : s.Squeezes s') (fa : A.view.ty.Contents (Elt F)) (fb : B.view.ty.Contents (Elt F)) :
    B.view.read (Elt F) ((B.squeeze s' h).view.write (Elt F) fb ((A.squeeze s' h).view.read (Elt F) fa) Finset.univ)
      = A.view.read (Elt F) fa := by
  funext j
  obtain ⟨i, rfl⟩ := (Shape.reshapeEquiv h.numel_eq).surjective j
  exact congrFun (View.read_write_univ (v := (B.squeeze s' h).view) fb ((A.squeeze s' h).view.read (Elt F) fa)) i

end Cert.AllReduce

end
-- ==== Proof.Protocol.lean ====
/-
# The all-reduce's protocol

Four devices exchange 64-row blocks by remote copies. Device `c` has three partners, `peer 0 c`, `peer 1 c` and
`peer 2 c`; each of the three maps is its own inverse. A copy through slot `s` goes from slot `src s` of the sender's
`send` array to slot `s` of the `comm` array of `dst s c`, the partner of the slot's group `grp s`.

The semaphore cells of a device are its barrier cell and, for every slot, the cell its outgoing copy completes on and
the cell its incoming copy completes on. Each has one round. The barrier cell's round has three duties, one for each
partner: partner `k`'s signal hands over the slots of its own `comm` array that this device will write. An outgoing
copy's cell returns what the copy read; an incoming copy's cell delivers the slot filled with the sender's block.
-/
module

public import proofs.«01_k».proof.Proof.Memory
public import proofs.«01_k».proof.Proof.Gen.KernelIdeal.Skeleton
public import proofs.«01_k».proof.Proof.Gen.KernelIdeal.Launch

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners and slots -/

/-- Partner `k` of device `c`: the device with the last bit flipped, with both flipped, with the first flipped. -/
def peer (k : Fin 3) (c : Dev nD) : Dev nD := (![![1, 0, 3, 2], ![3, 2, 1, 0], ![2, 3, 0, 1]] : Fin 3 → Fin 4 → Fin 4) k c

theorem peer_peer (k : Fin 3) (c : Dev nD) : peer k (peer k c) = c := by revert k c; decide

/-- The partner map as a permutation of the devices. -/
def peerEquiv (k : Fin 3) : Dev nD ≃ Dev nD := ⟨peer k, peer k, peer_peer k, peer_peer k⟩

/-- Which partner a slot's copy goes to (and comes from). -/
def grp (s : Fin 9) : Fin 3 := (![0, 0, 0, 1, 1, 1, 0, 1, 2] : Fin 9 → Fin 3) s
/-- The slot of the `send` array a slot's copy reads: its own, but slot 6 for the last three. -/
def src (s : Fin 9) : Fin 9 := (![0, 1, 2, 3, 4, 5, 6, 6, 6] : Fin 9 → Fin 9) s
/-- The device a slot's copy goes to. -/
abbrev dst (s : Fin 9) (c : Dev nD) : Dev nD := peer (grp s) c

/-- The share of its source a copy holds while in flight: everything, but for the three copies of slot 6 a part each. -/
def part (s : Fin 9) : PosShare TreeShare :=
  match s with
  | 6 => fullShare.left
  | 7 => fullShare.right.left
  | 8 => fullShare.right.right
  | _ => fullShare

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = dst 0 c := by revert c; decide +kernel
theorem dev5_eq (c : Dev nD) : (⟨k0_dev5 c, k0_dev5_lt c⟩ : Dev nD) = dst 1 c := by revert c; decide +kernel
theorem dev6_eq (c : Dev nD) : (⟨k0_dev6 c, k0_dev6_lt c⟩ : Dev nD) = dst 2 c := by revert c; decide +kernel
theorem dev7_eq (c : Dev nD) : (⟨k0_dev7 c, k0_dev7_lt c⟩ : Dev nD) = dst 6 c := by revert c; decide +kernel
theorem dev8_eq (c : Dev nD) : (⟨k0_dev8 c, k0_dev8_lt c⟩ : Dev nD) = dst 7 c := by revert c; decide +kernel
theorem dev9_eq (c : Dev nD) : (⟨k0_dev9 c, k0_dev9_lt c⟩ : Dev nD) = dst 8 c := by revert c; decide +kernel
theorem dev10_eq (c : Dev nD) : (⟨k0_dev10 c, k0_dev10_lt c⟩ : Dev nD) = dst 3 c := by revert c; decide +kernel
theorem dev11_eq (c : Dev nD) : (⟨k0_dev11 c, k0_dev11_lt c⟩ : Dev nD) = dst 4 c := by revert c; decide +kernel
theorem dev12_eq (c : Dev nD) : (⟨k0_dev12 c, k0_dev12_lt c⟩ : Dev nD) = dst 5 c := by revert c; decide +kernel

/-! ## Memrefs and cells -/

abbrev xM : Memref sig .tc .vmem S256x256 .f32 := Memref.whole cc0_stg0_0
abbrev w1M : Memref sig .tc .vmem S256x512 .f32 := Memref.whole cc0_stg1_0
abbrev w2M : Memref sig .tc .vmem S512x256 .f32 := Memref.whole cc0_stg2_0
abbrev oM : Memref sig .tc .vmem S256x256 .f32 := Memref.whole cc0_stg3_0
abbrev sendM : Memref sig .tc .vmem S9x64x256 .bf16 := Memref.whole cc0_scratch0
abbrev commM : Memref sig .tc .vmem S9x64x256 .bf16 := Memref.whole cc0_scratch1

theorem slot_inb (s : Fin 9) : ∀ a, (![s.val, 0, 0] : Fin 3 → Nat) a + S1x64x256.size a ≤ S9x64x256.size a := by revert s; decide
theorem row_inb (j : Fin 4) : ∀ a, (![64 * j.val, 0] : Fin 2 → Nat) a + S64x256.size a ≤ S256x256.size a := by revert j; decide
theorem sem_inb (s : Fin 9) : ∀ a, (![s.val] : Fin 1 → Nat) a + S1.size a ≤ S9.size a := by revert s; decide

/-- Slot `s` of a nine-slot array. -/
abbrev slotRect (s : Fin 9) : Rect S9x64x256 := Rect.unit (s := S9x64x256) ![s.val, 0, 0] S1x64x256.size (slot_inb s)
/-- The `j`-th 64 rows of a 256-row array. -/
abbrev rowRect (j : Fin 4) : Rect S256x256 := Rect.unit (s := S256x256) ![64 * j.val, 0] S64x256.size (row_inb j)

abbrev sendSlot (s : Fin 9) : Memref sig .tc .vmem S1x64x256 .bf16 := sendM.slice (slotRect s) (fun _ => rfl)
abbrev commSlot (s : Fin 9) : Memref sig .tc .vmem S1x64x256 .bf16 := commM.slice (slotRect s) (fun _ => rfl)
abbrev outRow (j : Fin 4) : Memref sig .tc .vmem S64x256 .f32 := oM.slice (rowRect j) (fun _ => rfl)
/-- A slot as the copies name it: the unit axis dropped. -/
abbrev sendSq (s : Fin 9) : Memref sig .tc .vmem S64x256 .bf16 := (sendSlot s).squeeze S64x256 squeezes_S1x64x256_S64x256
abbrev commSq (s : Fin 9) : Memref sig .tc .vmem S64x256 .bf16 := (commSlot s).squeeze S64x256 squeezes_S1x64x256_S64x256

abbrev barS : Sem sig := (SemArray.scalar (sig.barrier 0 rfl) : Sems sig S_).sem
/-- The semaphore slot `s`'s outgoing copy completes on; -/
abbrev sendSem (s : Fin 9) : DmaSem sig := ((cc0_scratch2.slice (Rect.unit (s := S9) ![s.val] S1.size (sem_inb s))).squeeze S_ squeezes_S1_S_).sem
/-- and the one its incoming copy completes on. -/
abbrev recvSem (s : Fin 9) : DmaSem sig := ((cc0_scratch3.slice (Rect.unit (s := S9) ![s.val] S1.size (sem_inb s))).squeeze S_ squeezes_S1_S_).sem

/-- What the kernel's own semaphores are numbered by: outgoing slots, then incoming slots. -/
abbrev Own : Type := Fin 9 ⊕ Fin 9
/-- What all the protocol's cells of a device are numbered by: the barrier, then its own. -/
abbrev CellIx : Type := Unit ⊕ Own

abbrev osem : Own → SemLoc sig := fun | .inl s => .dma (sendSem s) | .inr s => .dma (recvSem s)
abbrev csem : CellIx → SemLoc sig := fun | .inl _ => .reg barS | .inr k => osem k
abbrev kcell (ck : Dev nD × CellIx) : GSem nD τ sig := ((ck.1 : Thread nD τ), csem ck.2)
abbrev barCell (c : Dev nD) : GSem nD τ sig := kcell (c, .inl ())
abbrev sendCell (c : Dev nD) (s : Fin 9) : GSem nD τ sig := kcell (c, .inr (.inl s))
abbrev recvCell (c : Dev nD) (s : Fin 9) : GSem nD τ sig := kcell (c, .inr (.inr s))

/-- Which of a device's slots a DMA semaphore belongs to, if any. -/
def slotOf (q : DmaSem sig) : Option Own :=
  if h : 4 ≤ q.val ∧ q.val < 13 then some (.inl ⟨q.val - 4, by omega⟩)
  else if h : 13 ≤ q.val ∧ q.val < 22 then some (.inr ⟨q.val - 13, by omega⟩) else none

theorem slotOf_send (s : Fin 9) : slotOf (sendSem s) = some (.inl s) := by revert s; decide
theorem slotOf_recv (s : Fin 9) : slotOf (recvSem s) = some (.inr s) := by revert s; decide

/-- What one copy adds to the semaphores it completes on. -/
abbrev N : ℕ := (commSq 0).view.dmaCredit
theorem N_pos : 0 < N := View.dmaCredit_pos _ (by decide)
theorem commSq_credit (s : Fin 9) : (commSq s).view.dmaCredit = N := rfl
theorem sendSq_credit (s : Fin 9) : (sendSq s).view.dmaCredit = N := rfl

/-! ## Contents -/

section Contents

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- Device `c`'s three arguments. -/
def xIn (c : Dev nD) : (cc0_stg0_0 : Ref sig .tc).ty.Contents (Elt F) :=
  (win0_0.blk (0 : Fin 1)).view.read (Elt F) ((s₀ m ρ).mem ((c : Thread nD τ).loc main_arg0))
def w1In (c : Dev nD) : (cc0_stg1_0 : Ref sig .tc).ty.Contents (Elt F) :=
  (win0_1.blk (0 : Fin 1)).view.read (Elt F) ((s₀ m ρ).mem ((c : Thread nD τ).loc main_arg1))
def w2In (c : Dev nD) : (cc0_stg2_0 : Ref sig .tc).ty.Contents (Elt F) :=
  (win0_2.blk (0 : Fin 1)).view.read (Elt F) ((s₀ m ρ).mem ((c : Thread nD τ).loc main_arg2))

/-- What the kernel loads of them: the `j`-th rows of `x`, and the two weights whole. -/
abbrev xRow (c : Dev nD) (j : Fin 4) : Vec F S64x256 .f32 := fun i => xIn m ρ c ((rowRect j).emb i)
abbrev w1L (c : Dev nD) : Vec F S256x512 .f32 :=
  fun i => w1In m ρ c ((Rect.unit (s := S256x512) ![0, 0] S256x512.size inb_S256x512_S256x512_0_0).emb i)
abbrev w2L (c : Dev nD) : Vec F S512x256 .f32 :=
  fun i => w2In m ρ c ((Rect.unit (s := S512x256) ![0, 0] S512x256.size inb_S512x256_S512x256_0_0).emb i)

/-- Device `c`'s own product for the `j`-th rows. -/
def prod (c : Dev nD) (j : Fin 4) : Vec F S64x256 .f32 :=
  match j with
  | 0 => k0_pay1 (xRow m ρ c 0) (w1L m ρ c) (w2L m ρ c)
  | 1 => k0_pay4 (xRow m ρ c 1) (w1L m ρ c) (w2L m ρ c)
  | 2 => k0_pay6 (xRow m ρ c 2) (w1L m ρ c) (w2L m ρ c)
  | 3 => k0_pay8 (xRow m ρ c 3) (w1L m ρ c) (w2L m ρ c)

/-- The same narrowed, as it is copied in the first exchange. -/
def half (c : Dev nD) (j : Fin 4) : Vec F S1x64x256 .bf16 :=
  match j with
  | 0 => k0_pay3 (k0_pay2 (xRow m ρ c 0) (w1L m ρ c) (w2L m ρ c))
  | 1 => k0_pay5 (xRow m ρ c 1) (w1L m ρ c) (w2L m ρ c)
  | 2 => k0_pay7 (xRow m ρ c 2) (w1L m ρ c) (w2L m ρ c)
  | 3 => k0_pay9 (xRow m ρ c 3) (w1L m ρ c) (w2L m ρ c)

/-- The first three row blocks after the first exchange: the device's own product and its first partner's. -/
def pair (c : Dev nD) (j : Fin 3) : Vec F S64x256 .f32 :=
  match j with
  | 0 => k0_pay10 (prod m ρ c 0) (half m ρ (peer 0 c) 0)
  | 1 => k0_pay12 (prod m ρ c 1) (half m ρ (peer 0 c) 1)
  | 2 => k0_pay14 (prod m ρ c 2) (half m ρ (peer 0 c) 2)

/-- The same narrowed, as it is copied in the second exchange. -/
def pairHalf (c : Dev nD) (j : Fin 3) : Vec F S1x64x256 .bf16 :=
  match j with
  | 0 => k0_pay11 (prod m ρ c 0) (half m ρ (peer 0 c) 0)
  | 1 => k0_pay13 (prod m ρ c 1) (half m ρ (peer 0 c) 1)
  | 2 => k0_pay15 (prod m ρ c 2) (half m ρ (peer 0 c) 2)

/-- What device `c` copies through slot `s`. -/
def sent (c : Dev nD) (s : Fin 9) : Vec F S1x64x256 .bf16 :=
  match s with
  | 0 => half m ρ c 0
  | 1 => half m ρ c 1
  | 2 => half m ρ c 2
  | 3 => pairHalf m ρ c 0
  | 4 => pairHalf m ρ c 1
  | 5 => pairHalf m ρ c 2
  | _ => half m ρ c 3

/-- The `j`-th rows of device `c`'s result. -/
def total (c : Dev nD) (j : Fin 4) : Vec F S64x256 .f32 :=
  match j with
  | 0 => k0_pay16 (pair m ρ c 0) (pairHalf m ρ (peer 1 c) 0)
  | 1 => k0_pay17 (pair m ρ c 1) (pairHalf m ρ (peer 1 c) 1)
  | 2 => k0_pay19 (k0_pay18 (pair m ρ c 2)) (pairHalf m ρ (peer 1 c) 2)
  | 3 => k0_pay20 (prod m ρ c 3) (half m ρ (peer 0 c) 3) (half m ρ (peer 1 c) 3) (half m ρ (peer 2 c) 3)

end Contents

/-! ## The schedule -/

section Schedule

variable (m : (ℓ : Loc nD τ sig) → Buf (Elt F) ℓ) (ρ : Dev nD → PrngReg)

/-- A slot of device `c`'s `comm` array, at any contents. -/
def freeSlot (c : Dev nD) (s : Fin 9) : sProp 𝕄 := iprop(∃ X, owns (c : Thread nD τ) (commSlot s) fullShare X)
/-- What partner `k`'s signal hands device `c`: the slots of the partner's `comm` array that `c` fills. -/
def barPay (c : Dev nD) (k : Fin 3) : sProp 𝕄 := bigSep (Finset.univ.filter fun s => grp s = k) fun s => freeSlot (F := F) (peer k c) s
/-- What the completion of `c`'s outgoing copy returns: the copy's share of its source. -/
def sendPay (c : Dev nD) (s : Fin 9) : sProp 𝕄 := owns (c : Thread nD τ) (sendSlot (src s)) (part s) (sent m ρ c s)
/-- What the completion of `c`'s incoming copy delivers: the slot, holding the sender's block. -/
def recvPay (c : Dev nD) (s : Fin 9) : sProp 𝕄 := owns (c : Thread nD τ) (commSlot s) fullShare (sent m ρ (dst s c) s)

def paid (c : Dev nD) : SemLoc sig → Duty → sProp 𝕄
  | .reg _, d => barPay c d
  | .dma q, _ => match slotOf q with
    | some (.inl s) => sendPay m ρ c s
    | some (.inr s) => recvPay m ρ c s
    | none => iprop(emp)

def due : SemLoc sig → Finset Duty
  | .reg _ => Finset.univ
  | .dma q => if (slotOf q).isSome then {0} else ∅

/-- One round: a barrier cell's three duties of one unit, a copy's cell's one duty of the copy's credit. -/
def rd : Rounds.Schedule (GSem nD τ sig) Duty 𝕄 where
  duties g r := if r = 0 ∧ g.1.2 = .tc then due g.2 else ∅
  unitless _ := False
  amount g _ _ := match g.2 with | .reg _ => 1 | .dma _ => N
  payload g _ d := paid m ρ g.1.1 g.2 d
  amount_pos g _ _ _ := by
    rcases g with ⟨_, _ | _⟩
    · exact Nat.one_pos
    · exact N_pos

instance freeSlot_storable (c : Dev nD) (s : Fin 9) : BI.Storable (upEmb : UEmb _ 𝕄) (freeSlot (F := F) c s) := by
  unfold freeSlot; infer_instance

instance rd_payload_storable (g : GSem nD τ sig) (r : ℕ) (d : Duty) :
    BI.Storable (upEmb : UEmb _ 𝕄) ((rd (F := F) m ρ).payload g r d) := by
  show BI.Storable upEmb (paid m ρ g.1.1 g.2 d)
  unfold paid barPay sendPay recvPay
  (repeat' split) <;> infer_instance

variable (c : Dev nD) (s : Fin 9)

theorem duties_bar : (rd (F := F) m ρ).duties (barCell c) 0 = Finset.univ := by dsimp only [rd]; exact if_pos ⟨rfl, rfl⟩
theorem duties_send : (rd (F := F) m ρ).duties (sendCell c s) 0 = {0} := by
  dsimp only [rd]; rw [if_pos ⟨rfl, rfl⟩]; dsimp only [due]; rw [slotOf_send]; rfl
theorem duties_recv : (rd (F := F) m ρ).duties (recvCell c s) 0 = {0} := by
  dsimp only [rd]; rw [if_pos ⟨rfl, rfl⟩]; dsimp only [due]; rw [slotOf_recv]; rfl
theorem duties_later (g : GSem nD τ sig) : ∀ r, 0 + 1 ≤ r → (rd (F := F) m ρ).duties g r = ∅ :=
  fun r hr => by dsimp only [rd]; exact if_neg fun h => by omega

theorem expect_bar : (rd (F := F) m ρ).expect (barCell c) 0 = 3 := by
  unfold Schedule.expect Schedule.amountOf; rw [duties_bar]; rfl
theorem expect_send : (rd (F := F) m ρ).expect (sendCell c s) 0 = N := by
  unfold Schedule.expect Schedule.amountOf; rw [duties_send, Finset.sum_singleton]; rfl
theorem expect_recv : (rd (F := F) m ρ).expect (recvCell c s) 0 = N := by
  unfold Schedule.expect Schedule.amountOf; rw [duties_recv, Finset.sum_singleton]; rfl

theorem payload_bar (k : Fin 3) : (rd (F := F) m ρ).payload (barCell c) 0 k = barPay c k := rfl
theorem payload_send : (rd (F := F) m ρ).payload (sendCell c s) 0 0 = sendPay m ρ c s := by
  dsimp only [rd, paid]; rw [slotOf_send]
theorem payload_recv : (rd (F := F) m ρ).payload (recvCell c s) 0 0 = recvPay m ρ c s := by
  dsimp only [rd, paid]; rw [slotOf_recv]

theorem rest_bar : bigSep ((rd (F := F) m ρ).duties (barCell c) 0 \ ∅) (fun d => (rd (F := F) m ρ).payload (barCell c) 0 d)
    = iprop(barPay (F := F) c 0 ∗ barPay c 1 ∗ barPay c 2) := by
  rw [Finset.sdiff_empty, duties_bar, bigSep_univ_eq_bigSepL [0, 1, 2] (by decide) (by decide)]; rfl
theorem rest_send : bigSep ((rd (F := F) m ρ).duties (sendCell c s) 0 \ ∅) (fun d => (rd (F := F) m ρ).payload (sendCell c s) 0 d) = sendPay m ρ c s := by
  rw [Finset.sdiff_empty, duties_send, bigSep_singleton, payload_send]
theorem rest_recv : bigSep ((rd (F := F) m ρ).duties (recvCell c s) 0 \ ∅) (fun d => (rd (F := F) m ρ).payload (recvCell c s) 0 d) = recvPay m ρ c s := by
  rw [Finset.sdiff_empty, duties_recv, bigSep_singleton, payload_recv]

end Schedule

/-! ## What a device owes, and the levels that order its waits -/

/-- The credit of `c`'s outgoing copies through the slots of a list, the head of the list last. -/
def owe (c : Dev nD) : List (Fin 9) → CellTallies nD τ sig Unit
  | [] => 0
  | s :: l => owe c l + tallyAt (recvCell (dst s c) s) () N

/-- The order in which the kernel copies. -/
abbrev order : List (Fin 9) := [0, 1, 2, 6, 7, 8, 3, 4, 5]

/-- What device `c` owes at launch: a unit to each partner's barrier cell and all its copies. -/
def O₀ (c : Dev nD) : CellTallies nD τ sig Unit :=
  owe c order + tallyAt (barCell (peer 2 c)) () 1 + tallyAt (barCell (peer 1 c)) () 1 + tallyAt (barCell (peer 0 c)) () 1

def L (g : GSem nD τ sig) : Finset Unit := if g.1.2 = .tc then {()} else ∅
/-- A cell's level: the barrier's below the copies', the first exchange's below the others'. -/
def lv (g : GSem nD τ sig) (_ : Unit) : ℕ := match g.2 with
  | .reg _ => 1
  | .dma q => match slotOf q with
    | some (.inr s) => if s.val < 3 then 2 else 3
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_send (c : Dev nD) (s : Fin 9) : lv (sendCell c s) () = 0 := by dsimp only [lv]; rw [slotOf_send]
theorem lv_recv (c : Dev nD) (s : Fin 9) : lv (recvCell c s) () = if s.val < 3 then 2 else 3 := by dsimp only [lv]; rw [slotOf_recv]

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem owe_pos {c : Dev nD} {g : GSem nD τ sig} {u : Unit} : ∀ {l : List (Fin 9)}, 0 < owe c l g u → ∃ s ∈ l, g = recvCell (dst s c) s
  | [], h => absurd h (Nat.lt_irrefl 0)
  | s :: l, h => by
    unfold owe at h
    rw [Pi.add_apply, Finsupp.add_apply] at h
    by_cases h0 : owe c l g u = 0
    · rw [h0, Nat.zero_add] at h
      exact ⟨s, List.mem_cons_self, tally_pos h⟩
    · obtain ⟨t, ht, hg⟩ := owe_pos (Nat.pos_of_ne_zero h0)
      exact ⟨t, List.mem_cons_of_mem _ ht, hg⟩

theorem O₀_pos {c : Dev nD} {g : GSem nD τ sig} {u : Unit} (h : 0 < O₀ c g u) :
    (∃ s, g = recvCell (dst s c) s) ∨ ∃ k, g = barCell (peer k c) := by
  unfold O₀ at h
  rw [Pi.add_apply, Finsupp.add_apply, Pi.add_apply, Finsupp.add_apply, Pi.add_apply, Finsupp.add_apply] at h
  by_contra hn
  rw [not_or, not_exists, not_exists] at hn
  have h0 : owe c order g u = 0 := Nat.eq_zero_of_not_pos fun h => by obtain ⟨s, -, hs⟩ := owe_pos h; exact hn.1 s hs
  have hb (k : Fin 3) : (tallyAt (barCell (peer k c)) () 1 : CellTallies nD τ sig Unit) g u = 0 :=
    Nat.eq_zero_of_not_pos fun h => hn.2 k (tally_pos h)
  rw [h0, hb, hb, hb] at h
  exact Nat.lt_irrefl 0 h

/-- A device may wait on a cell of its own while it owes only copies to cells of higher level. -/
theorem mayWait (c : Dev nD) (sm : SemLoc sig) (l : List (Fin 9)) (cut : ℕ) (h : lv ((c : Thread nD τ), sm) () ≤ cut)
    (hl : ∀ s ∈ l, cut < if s.val < 3 then 2 else 3) :
    (levAts L lv : sProp 𝕄) ⊢ MayWait (c : Thread nD τ) sm () (owe c l) :=
  MayOwe.of_cut (L := L) (lev := lv) cut
    (fun p hp => by rw [Finset.mem_singleton.mp hp, L_tc]; exact Finset.mem_singleton_self _)
    (fun g u hg => by obtain ⟨s, -, rfl⟩ := owe_pos hg; rw [L_tc]; exact Finset.mem_singleton_self _)
    (fun p hp => by rw [Finset.mem_singleton.mp hp]; exact h)
    (fun g u hg => by obtain ⟨s, hs, rfl⟩ := owe_pos hg; rw [lv_recv]; exact hl s hs)

/-- It may wait on a staging semaphore owing everything, or nothing. -/
theorem mayWait_stage (c : Dev nD) (q : DmaSem sig) (hq : slotOf q = none) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => by rcases O₀_pos hg with ⟨s, rfl⟩ | ⟨k, rfl⟩ <;> (rw [L_tc]; exact Finset.mem_singleton_self _))
      (fun p hp => by rw [Finset.mem_singleton.mp hp]; dsimp only [lv]; rw [hq])
      (fun g u hg => by
        rcases O₀_pos hg with ⟨s, rfl⟩ | ⟨k, rfl⟩
        · rw [lv_recv]; split <;> decide
        · exact Nat.one_pos)
  · rw [MayWait_zero]; iintro -; iempintro

end Cert.AllReduce

end
-- ==== Proof.Steps.lean ====
/-
# Stepping the protocol's operations

One lemma for each kind of operation on the protocol's cells: a signal to a partner's barrier, the wait on the own
barrier, the copy through a slot, and the waits for a slot's outgoing and incoming copy. Each wait also closes its
cell, which will not be used again, so that its counter is known to be zero.
-/
module

public import proofs.«01_k».proof.Proof.Protocol

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-! ## What a device holds of the protocol -/

/-- Every cell's invariant, and that every cell has reached its round. -/
def records : sProp 𝕄 :=
  iprop((bigSep Finset.univ fun ck : Dev nD × CellIx => cellInv ER (rd m ρ) (K ck) (kcell ck))
    ∗ bigSep Finset.univ fun ck : Dev nD × CellIx => reached ER (kcell ck) 0)

instance records_persistent : BI.Persistent (records m ρ K) := by unfold records; infer_instance

theorem inv_at (ck : Dev nD × CellIx) : records m ρ K ⊢ cellInv ER (rd m ρ) (K ck) (kcell ck) := by
  unfold records; iintro ⟨H, -⟩
  iapply (show (bigSep Finset.univ fun ck : Dev nD × CellIx => (cellInv ER (rd m ρ) (K ck) (kcell ck) : sProp 𝕄)) ⊢ cellInv ER (rd m ρ) (K ck) (kcell ck) from
    bigSep_elim (Finset.mem_univ ck)); iexact H
theorem reached_at (ck : Dev nD × CellIx) : records m ρ K ⊢ reached ER (kcell ck) 0 := by
  unfold records; iintro ⟨-, H⟩
  iapply (show (bigSep Finset.univ fun ck : Dev nD × CellIx => (reached ER (kcell ck) 0 : sProp 𝕄)) ⊢ reached ER (kcell ck) 0 from
    bigSep_elim (Finset.mem_univ ck)); iexact H

/-- Slot `s`'s outgoing copy not yet begun: its cell's position, and the tokens of both duties the copy performs. -/
def sendReady (c : Dev nD) (s : Fin 9) : sProp 𝕄 :=
  iprop(atPos ER (sendCell c s) 0 ∅ 0 ∗ dutyTok ER (sendCell c s) 0 0 ∗ dutyTok ER (recvCell (dst s c) s) 0 0)
/-- Slot `s`'s outgoing copy under way. -/
def sendFly (c : Dev nD) (s : Fin 9) : sProp 𝕄 := iprop(atPos ER (sendCell c s) 0 ∅ 0 ∗ cred (tallyAt (sendCell c s) () N))
/-- Slot `s`'s incoming copy awaited. -/
def recvFly (c : Dev nD) (s : Fin 9) : sProp 𝕄 := iprop(atPos ER (recvCell c s) 0 ∅ 0 ∗ cred (tallyAt (recvCell c s) () N))
/-- Both cells of slot `s` closed at zero: what is left of the outgoing one, -/
abbrev sendDone (c : Dev nD) (s : Fin 9) : sProp 𝕄 := semVal (sendCell c s) 0
/-- and of the incoming one. -/
abbrev recvDone (c : Dev nD) (s : Fin 9) : sProp 𝕄 := semVal (recvCell c s) 0

/-- What device `c` still owes, whatever it has waited on so far. -/
def owing (c : Dev nD) (O : CellTallies nD τ sig Unit) : sProp 𝕄 := iprop(∃ W, owes (c : Thread nD τ) O W)

variable (c : Dev nD) {α : Type}

/-! ## The barrier -/

/-- The signal to partner `k` hands over the slots of this device's `comm` array that the partner fills. -/
theorem signal_step (k : Fin 3) (n : Dev nD) (hn : n = peer k c) (O : CellTallies nD τ sig Unit) {b : ℤ} (hb : ((1 : ℕ) : ℤ) = b)
    {kk : PUnit → Prog (TpuEff nD τ sig (Elt F) Λ₀ .tc) α} {Q : α → sProp 𝕄} :
    iprop(records m ρ K ∗ dutyTok ER (barCell (peer k c)) 0 k
        ∗ (bigSep (Finset.univ.filter fun s => grp s = k) fun s => freeSlot (F := F) c s)
        ∗ owing (F := F) c (O + tallyAt (barCell (peer k c)) () 1))
      ⊢ iprop((owing (F := F) c O -∗ run c (kk ⟨⟩) Q)
          -∗ run c (.op (.semSignal (Dev.tc n : Thread nD τ) barS b) kk) Q) := by
  subst hn; subst hb
  unfold owing
  iintro ⟨#HR, Ht, Hs, ⟨%W, HO⟩⟩ Hk
  iapply (Rounds.wp_signal 𝒱₀ ER (rd m ρ) (c : Thread nD τ) none (dst := (peer k c : Thread nD τ)) (κ := K (peer k c, .inl ()))
      (d := k) (by rw [duties_bar]; exact Finset.mem_univ _) (rfl : (rd (F := F) m ρ).amount (barCell (peer k c)) 0 k = 1) () O rfl) $$ [HO Ht Hs]
  · isplitr; · iapply (inv_at m ρ K (peer k c, .inl ())); iexact HR
    isplitl [HO]; · iexact HO
    isplitl [Ht]; · iexact Ht
    isplitl [Hs]; · rw [payload_bar]; unfold barPay; rw [peer_peer]; iexact Hs
    iapply (reached_at m ρ K (peer k c, .inl ())); iexact HR
  iintro HO
  iapply Hk; iexists W; iexact HO

/-- The wait on the own barrier, owing the copies only, receives the partners' slots. -/
theorem wait_barrier (l : List (Fin 9)) {b : ℤ} (hb : ((3 : ℕ) : ℤ) = b)
    {kk : PUnit → Prog (TpuEff nD τ sig (Elt F) Λ₀ .tc) α} {Q : α → sProp 𝕄} :
    iprop(records m ρ K ∗ levAts L lv ∗ atPos ER (barCell c) 0 ∅ 0 ∗ cred (tallyAt (barCell c) () 3) ∗ owing (F := F) c (owe c l))
      ⊢ iprop(((semVal (barCell c) 0 ∗ (barPay (F := F) c 0 ∗ barPay (F := F) c 1 ∗ barPay (F := F) c 2) ∗ owing (F := F) c (owe c l)) -∗ run c (kk ⟨⟩) Q)
          -∗ run c (.op (.semWait barS b) kk) Q) := by
  subst hb
  unfold owing
  iintro ⟨#HR, #Hlev, Hat, Hc, ⟨%W, HO⟩⟩ Hk
  iapply (Rounds.wp_wait_rest_token 𝒱₀ ER (rd m ρ) (c : Thread nD τ) none (κ := K (c, .inl ()))
      (wpE_semWait_eq 𝒱₀ (c : Thread nD τ) none Set.univ) (Set.mem_univ _) () (O := owe c l) (W := W) (R := 0) (m := 0) (T := ∅)
      (by rw [Nat.zero_add]; exact (expect_bar m ρ c).symm)) $$ [Hc HO Hat]
  · isplitr; · iapply (inv_at m ρ K (c, .inl ())); iexact HR
    isplitl [Hc]; · iexact Hc
    isplitl [HO]; · iexact HO
    isplitr
    · iapply (mayWait c (.reg barS) l 1 (le_refl 1) (fun s _ => by split <;> decide)); iexact Hlev
    iexact Hat
  iintro ⟨HO, Hat, -, Hp⟩
  imod (Rounds.cell_close ER (rd m ρ) (Set.mem_univ (K (c, .inl ()))) (fun h => h) (R := 0 + 1) (duties_later m ρ (barCell c))) $$ [Hat] with Hz
  · isplitr; · iapply (inv_at m ρ K (c, .inl ())); iexact HR
    iexact Hat
  ihave Hp := (Entails.of_eq (rest_bar m ρ c)) $$ Hp
  iapply Hk
  isplitl [Hz]; · iexact Hz
  isplitl [Hp]; · iexact Hp
  iexists _; iexact HO

/-! ## The copies -/

/-- The copy through slot `s`: it takes a share of its source and the partner's free slot. -/
theorem copy_step (s t : Fin 9) (q : PosShare TreeShare) (ht : src s = t) (hq : part s = q) (n : Dev nD) (hn : n = dst s c) (l : List (Fin 9))
    {hsc : (commSq s : Memref sig (Dev.tc n : Thread nD τ).2.kind .vmem S64x256 .bf16).view.ref.isScScratch = false}
    {hsrc : (sendSq t).view.WordExact} {hdst : (commSq s).view.WordExact}
    {hsem : DmaTarget.Typed .vmem (.dma (recvSem s)) (.remote (Dev.tc n : Thread nD τ) (commSq s) (.dma (sendSem s)) hsc)}
    {kk : PUnit → Prog (TpuEff nD τ sig (Elt F) Λ₀ .tc) α} {Q : α → sProp 𝕄} :
    iprop(records m ρ K ∗ sendReady (F := F) c s ∗ owns (c : Thread nD τ) (sendSlot t) q (sent m ρ c s)
        ∗ freeSlot (F := F) (dst s c) s ∗ owing (F := F) c (owe c (s :: l)))
      ⊢ iprop(((sendFly (F := F) c s ∗ owing (F := F) c (owe c l)) -∗ run c (kk ⟨⟩) Q)
          -∗ run c (.op (.enqueueDma (sendSq t) (.remote (Dev.tc n : Thread nD τ) (commSq s) (.dma (sendSem s)) hsc)
              (.dma (recvSem s)) hsrc hdst hsem) kk) Q) := by
  subst hn; subst ht; subst hq
  unfold owing sendReady sendFly freeSlot
  iintro ⟨#HR, ⟨Hat, Hts, Htr⟩, Hsrc, ⟨%X, Hdst⟩, ⟨%W, HO⟩⟩ Hk
  ihave Hsrc := (show owns (c : Thread nD τ) (sendSlot (src s)) (part s) (sent m ρ c s)
      ⊢ iprop(∃ f, ⌜(sendSlot (src s)).view.read (Elt F) f = sent m ρ c s⌝
        ∗ ((sendSq (src s)).view.loc (c : Thread nD τ) ↦[(sendSq (src s)).view.set]{part s} f)) from by
      unfold owns; rw [View.set_reshape]) $$ Hsrc
  ihave Hdst := (show owns (dst s c : Thread nD τ) (commSlot s) fullShare X
      ⊢ iprop(∃ f : Buf (Elt F) ((commSq s).view.loc (dst s c : Thread nD τ)),
        ((commSq s).view.loc (dst s c : Thread nD τ) ↦[(commSq s).view.set]{fullShare} f)) from by
      unfold owns; rw [View.set_reshape]; iintro ⟨%f, -, H⟩; iexists f; iexact H) $$ Hdst
  icases Hsrc with ⟨%fs, %hfs, Hsrc⟩
  icases Hdst with ⟨%fd, Hdst⟩
  iapply (Rounds.wp_send_pointsTo 𝒱₀ ER (rd m ρ) (c : Thread nD τ) none (κ₁ := K (c, .inr (.inl s))) (κ₂ := K (dst s c, .inr (.inr s)))
    (r₁ := 0) (r₂ := 0) (d₁ := 0) (d₂ := 0) (q := part s) (fs := fs) (fd := fd)
    (by rw [duties_send]; exact Finset.mem_singleton_self _) (by rw [duties_recv]; exact Finset.mem_singleton_self _)
    () () N rfl (rfl : (rd (F := F) m ρ).amount (sendCell c s) 0 0 = N) (rfl : (rd (F := F) m ρ).amount (recvCell (dst s c) s) 0 0 = N)
    (owe c l) rfl (W := W)
    (by rw [payload_send]; unfold sendPay owns; rw [View.set_reshape]; iintro H; iexists fs
        isplitr
        · ipureintro; exact hfs
        · iexact H)
    (by rw [payload_recv]; unfold recvPay owns; rw [View.set_reshape]; iintro H
        iexists ((commSq s).view.write (Elt F) fd ((sendSq (src s)).view.read (Elt F) fs) Finset.univ)
        isplitr
        · ipureintro; rw [show dst s (dst s c) = c from peer_peer _ _]
          exact (read_write_squeeze (sendSlot (src s)) (commSlot s) squeezes_S1x64x256_S64x256 fs fd).trans hfs
        · iexact H)) $$ [Hsrc Hdst HO Hts Htr]
  · isplitr; · iapply (inv_at m ρ K (c, .inr (.inl s))); iexact HR
    isplitr; · iapply (inv_at m ρ K (dst s c, .inr (.inr s))); iexact HR
    isplitl [Hsrc]; · iexact Hsrc
    isplitl [Hdst]; · iexact Hdst
    isplitl [HO]; · iexact HO
    isplitl [Hts]; · iexact Hts
    isplitr; · iapply (reached_at m ρ K (c, .inr (.inl s))); iexact HR
    isplitl [Htr]; · iexact Htr
    iapply (reached_at m ρ K (dst s c, .inr (.inr s))); iexact HR
  iintro ⟨Hc, HO⟩
  iapply Hk
  isplitl [Hat Hc]
  · isplitl [Hat]; · iexact Hat
    iexact Hc
  iexists W; iexact HO

/-- A wait for one of the device's own cells of slot number `k`, all of its round still to come: the round's payload,
    and the cell closed at zero. -/
theorem wait_own (k : Own) (l : List (Fin 9)) (cut : ℕ) (hlv : lv (kcell (c, .inr k)) () ≤ cut) (hl : ∀ t ∈ l, cut < if t.val < 3 then 2 else 3)
    (P : sProp 𝕄) (hP : bigSep ((rd (F := F) m ρ).duties (kcell (c, .inr k)) 0 \ ∅) (fun d => (rd (F := F) m ρ).payload (kcell (c, .inr k)) 0 d) = P)
    (hN : (rd (F := F) m ρ).expect (kcell (c, .inr k)) 0 = N)
    {w : TpuEff nD τ sig (Elt F) Λ₀ .tc PUnit}
    (hw : ∀ KK : PUnit → sProp 𝕄, wpE (defs₀ (F := F)) 𝒱₀ (c : Thread nD τ) none Set.univ w KK = waitSpec (c : Thread nD τ) Set.univ (osem k) N KK)
    {kk : PUnit → Prog (TpuEff nD τ sig (Elt F) Λ₀ .tc) α} {Q : α → sProp 𝕄} :
    iprop(records m ρ K ∗ levAts L lv ∗ (atPos ER (kcell (c, .inr k)) 0 ∅ 0 ∗ cred (tallyAt (kcell (c, .inr k)) () N)) ∗ owing (F := F) c (owe c l))
      ⊢ iprop(((semVal (kcell (c, .inr k)) 0 ∗ P ∗ owing (F := F) c (owe c l)) -∗ run c (kk ⟨⟩) Q) -∗ run c (.op w kk) Q) := by
  unfold owing
  iintro ⟨#HR, #Hlev, ⟨Hat, Hc⟩, ⟨%W, HO⟩⟩ Hk
  iapply (Rounds.wp_wait_rest_token 𝒱₀ ER (rd m ρ) (c : Thread nD τ) none (κ := K (c, .inr k))
      hw (Set.mem_univ _) () (O := owe c l) (W := W) (R := 0) (m := 0) (T := ∅)
      (by rw [Nat.zero_add]; exact hN.symm)) $$ [Hc HO Hat]
  · isplitr; · iapply (inv_at m ρ K (c, .inr k)); iexact HR
    isplitl [Hc]; · iexact Hc
    isplitl [HO]; · iexact HO
    isplitr
    · iapply (mayWait c (osem k) l cut hlv hl); iexact Hlev
    iexact Hat
  iintro ⟨HO, Hat, -, Hp⟩
  imod (Rounds.cell_close ER (rd m ρ) (Set.mem_univ (K (c, .inr k))) (fun h => h) (R := 0 + 1) (duties_later m ρ (kcell (c, .inr k)))) $$ [Hat] with Hz
  · isplitr; · iapply (inv_at m ρ K (c, .inr k)); iexact HR
    iexact Hat
  ihave Hp := (Entails.of_eq hP) $$ Hp
  iapply Hk
  isplitl [Hz]; · iexact Hz
  isplitl [Hp]; · iexact Hp
  iexists _; iexact HO

/-- The wait for slot `s`'s outgoing copy returns the copy's share of its source. -/
theorem wait_send (s t : Fin 9) (q : PosShare TreeShare) (ht : src s = t) (hq : part s = q) (l : List (Fin 9)) {sp : Space} {s' : Shape} {e' : EltTy} {A : Memref sig .tc sp s' e'} {B : Memref sig .tc .vmem S64x256 .bf16}
    {hA : A.view.WordExact} {hB : B.view.WordExact} (hN : B.view.dmaCredit = N)
    {kk : PUnit → Prog (TpuEff nD τ sig (Elt F) Λ₀ .tc) α} {Q : α → sProp 𝕄} :
    iprop(records m ρ K ∗ levAts L lv ∗ sendFly (F := F) c s ∗ owing (F := F) c (owe c l))
      ⊢ iprop(((sendDone (F := F) c s ∗ owns (c : Thread nD τ) (sendSlot t) q (sent m ρ c s) ∗ owing (F := F) c (owe c l)) -∗ run c (kk ⟨⟩) Q)
          -∗ run c (.op (.waitDma2 (sendSem s) A B hA hB) kk) Q) :=
  wait_own m ρ K c (.inl s) l 1 (by rw [lv_send]; exact Nat.zero_le _) (fun t _ => by split <;> decide) (owns (c : Thread nD τ) (sendSlot t) q (sent m ρ c s))
    (by subst ht; subst hq; exact rest_send m ρ c s) (expect_send m ρ c s) (fun KK => by rw [wpE_waitDma2_eq, hN])

/-- The wait for slot `s`'s incoming copy receives the sender's block: while copies of the second exchange are still
    owed, only for the slots of the first. -/
theorem wait_recv (s : Fin 9) (l : List (Fin 9)) (hl : l = [] ∨ s.val < 3 ∧ ∀ t ∈ l, ¬ t.val < 3) {sp : Space} {s' : Shape} {e' : EltTy}
    {A : Memref sig .tc sp s' e'} {B : Memref sig .tc .vmem S64x256 .bf16}
    {hA : A.view.WordExact} {hB : B.view.WordExact} (hN : B.view.dmaCredit = N)
    {kk : PUnit → Prog (TpuEff nD τ sig (Elt F) Λ₀ .tc) α} {Q : α → sProp 𝕄} :
    iprop(records m ρ K ∗ levAts L lv ∗ recvFly (F := F) c s ∗ owing (F := F) c (owe c l))
      ⊢ iprop(((recvDone (F := F) c s ∗ owns (c : Thread nD τ) (commSlot s) fullShare (sent m ρ (dst s c) s) ∗ owing (F := F) c (owe c l)) -∗ run c (kk ⟨⟩) Q)
          -∗ run c (.op (.waitDma2 (recvSem s) A B hA hB) kk) Q) :=
  wait_own m ρ K c (.inr s) l (if s.val < 3 then 2 else 3) (by rw [lv_recv])
    (fun t ht => by
      rcases hl with rfl | ⟨h, hl⟩
      · exact absurd ht List.not_mem_nil
      · rw [if_pos h, if_neg (hl t ht)]; decide) (recvPay m ρ c s)
    (rest_recv m ρ c s) (expect_recv m ρ c s) (fun KK => by rw [wpE_waitDma2_eq, hN])

end Cert.AllReduce

end
-- ==== Proof.Slices.lean ====
/-
# Arrays in parts

The nine slots of a scratch array and the four row blocks of the output, each owned by itself: a whole array is its
parts, and parts owned at any values of their own are the array at one value.
-/
module

public import proofs.«01_k».proof.Proof.Protocol
public import Idealize.ShloMosaic.Lib.MemrefSat

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Values given on the rectangles of a disjoint family are the parts of one value. -/
theorem exists_glue {T : Type} {S : Shape} {V : Type} [Nonempty V] (r : T → Rect S)
    (hd : ∀ t t', t ≠ t' → Disjoint (r t).set (r t').set) (X : ∀ t, (r t).shape.Idx → V) :
    ∃ Y : S.Idx → V, ∀ t j, Y ((r t).emb j) = X t j := by
  classical
  refine ⟨fun i => if h : ∃ t, ∃ j, (r t).emb j = i then X h.choose h.choose_spec.choose else Classical.arbitrary V, fun t j => ?_⟩
  have h : ∃ t', ∃ j', (r t').emb j' = (r t).emb j := ⟨t, j, rfl⟩
  have key : ∀ t' (j' : (r t').shape.Idx), (r t').emb j' = (r t).emb j → X t' j' = X t j := by
    intro t' j' e
    have ht : t' = t := by
      by_contra hne
      have h1 : (r t').emb j' ∈ (r t').set := by rw [← Rect.map_emb_univ]; exact Finset.mem_map_of_mem _ (Finset.mem_univ _)
      have h2 : (r t').emb j' ∈ (r t).set := by rw [e, ← Rect.map_emb_univ]; exact Finset.mem_map_of_mem _ (Finset.mem_univ _)
      exact Finset.disjoint_left.mp (hd t' t hne) h1 h2
    subst ht
    rw [(r t').emb.injective e]
  show (if h : ∃ t', ∃ j', (r t').emb j' = (r t).emb j then X h.choose h.choose_spec.choose else Classical.arbitrary V) = X t j
  rw [dif_pos h]
  exact key _ _ h.choose_spec.choose_spec

theorem slot_disjoint (s t : Fin 9) (h : s ≠ t) : Disjoint (slotRect s).set (slotRect t).set := by
  refine Finset.disjoint_left.mpr fun i hi hj => h (Fin.ext ?_)
  have h1 := Rect.mem_set_unit.mp hi 0
  have h2 := Rect.mem_set_unit.mp hj 0
  simp at h1 h2
  omega

theorem slot_cover : (Finset.univ : Finset (Fin 9)).biUnion (fun s => (slotRect s).set) = Finset.univ := by
  refine Finset.eq_univ_iff_forall.mpr fun i => Finset.mem_biUnion.mpr ⟨⟨(i 0).val, (i 0).isLt⟩, Finset.mem_univ _, ?_⟩
  refine Rect.mem_set_unit.mpr fun a => ?_
  have h1 := (i 1).isLt
  have h2 := (i 2).isLt
  fin_cases a
  · simp
  · exact ⟨Nat.zero_le _, by simpa using h1⟩
  · exact ⟨Nat.zero_le _, by simpa using h2⟩

theorem row_disjoint (s t : Fin 4) (h : s ≠ t) : Disjoint (rowRect s).set (rowRect t).set := by
  refine Finset.disjoint_left.mpr fun i hi hj => h (Fin.ext ?_)
  have h1 := Rect.mem_set_unit.mp hi 0
  have h2 := Rect.mem_set_unit.mp hj 0
  simp at h1 h2
  omega

theorem row_cover : (Finset.univ : Finset (Fin 4)).biUnion (fun s => (rowRect s).set) = Finset.univ := by
  refine Finset.eq_univ_iff_forall.mpr fun i => ?_
  have h0 : (i 0).val < 256 := (i 0).isLt
  have h1 := (i 1).isLt
  refine Finset.mem_biUnion.mpr ⟨⟨(i 0).val / 64, by omega⟩, Finset.mem_univ _, Rect.mem_set_unit.mpr fun a => ?_⟩
  fin_cases a
  · simp; omega
  · exact ⟨Nat.zero_le _, by simpa using h1⟩

/-- A memref owned at a value is owned at some value. -/
theorem owns_some (c : Dev nD) {s : Shape} {e : EltTy} (M : Memref sig .tc .vmem s e) (X : s.Idx → Elt F e) :
    (owns (c : Thread nD τ) M fullShare X : sProp 𝕄) ⊢ iprop(∃ X, owns (c : Thread nD τ) M fullShare X) := by
  iintro H; iexists X; iexact H

/-- A nine-slot array owned whole, at any contents, is its slots, each at any contents. -/
theorem slots_split (c : Dev nD) (M : Memref sig .tc .vmem S9x64x256 .bf16) :
    (iprop(∃ X, owns (c : Thread nD τ) M fullShare X) : sProp 𝕄)
      ⊢ bigSep Finset.univ fun s => iprop(∃ X, owns (c : Thread nD τ) (M.slice (slotRect s) (fun _ => rfl)) fullShare X) := by
  iintro ⟨%X, H⟩
  iapply ((owns_rects (c : Thread nD τ) M fullShare slotRect (fun _ _ => rfl) slot_disjoint slot_cover X).trans
    (bigSep_mono fun s _ => owns_some c _ _))
  iexact H

/-- And conversely. -/
theorem slots_join (c : Dev nD) (M : Memref sig .tc .vmem S9x64x256 .bf16) :
    (bigSep Finset.univ fun s => iprop(∃ X, owns (c : Thread nD τ) (M.slice (slotRect s) (fun _ => rfl)) fullShare X) : sProp 𝕄)
      ⊢ iprop(∃ X, owns (c : Thread nD τ) M fullShare X) := by
  have hne : Nonempty (Elt F .bf16) := Elt.nonempty F .bf16
  have hne' : ∀ s, Nonempty ((slotRect s).shape.Idx → Elt F .bf16) := fun s => ⟨fun _ => Classical.choice hne⟩
  iintro H
  ihave H := (BI.bigSep_exists_pi Finset.univ
    (fun (s : Fin 9) X => (owns (c : Thread nD τ) (M.slice (slotRect s) (fun _ => rfl)) fullShare X : sProp 𝕄))) $$ H
  icases H with ⟨%X, H⟩
  obtain ⟨Y, hY⟩ := exists_glue slotRect slot_disjoint X
  have back : (bigSep Finset.univ fun s => owns (c : Thread nD τ) (M.slice (slotRect s) (fun _ => rfl)) fullShare (X s) : sProp 𝕄)
      ⊢ owns (c : Thread nD τ) M fullShare Y := (bigSep_mono fun s _ => Entails.of_eq (congrArg (owns (c : Thread nD τ) (M.slice (slotRect s) (fun _ => rfl)) fullShare)
    (funext fun j => (hY s j).symm))).trans (owns_of_rects (c : Thread nD τ) M fullShare slotRect (fun _ _ => rfl) slot_disjoint slot_cover Y)
  iexists Y
  iapply back
  iexact H

/-- The output owned whole is its row blocks at some contents, -/
theorem rows_split (c : Dev nD) (X : S256x256.Idx → Elt F .f32) :
    (owns (c : Thread nD τ) oM fullShare X : sProp 𝕄)
      ⊢ bigSep Finset.univ fun j => iprop(∃ X, owns (c : Thread nD τ) (outRow j) fullShare X) :=
  (owns_rects (c : Thread nD τ) oM fullShare rowRect (fun _ _ => rfl) row_disjoint row_cover X).trans
    (bigSep_mono fun j _ => owns_some c _ _)

/-- and its row blocks at known contents are the output at any value with these parts. -/
theorem rows_join (c : Dev nD) (Y : S256x256.Idx → Elt F .f32) (X : Fin 4 → S64x256.Idx → Elt F .f32)
    (hY : ∀ t j, Y ((rowRect t).emb j) = X t j) :
    (bigSep Finset.univ fun j => owns (c : Thread nD τ) (outRow j) fullShare (X j) : sProp 𝕄)
      ⊢ owns (c : Thread nD τ) oM fullShare Y :=
  (bigSep_mono fun t _ => Entails.of_eq (congrArg (owns (c : Thread nD τ) (outRow t) fullShare)
    (funext fun j => (hY t j).symm))).trans (owns_of_rects (c : Thread nD τ) oM fullShare rowRect (fun _ _ => rfl) row_disjoint row_cover Y)

/-- A memref owned in full is the three shares the copies of slot 6 take, -/
theorem shares_split (c : Dev nD) {s : Shape} {e : EltTy} (M : Memref sig .tc .vmem s e) (X : s.Idx → Elt F e) :
    (owns (c : Thread nD τ) M fullShare X : sProp 𝕄)
      ⊢ iprop(owns (c : Thread nD τ) M fullShare.left X ∗ owns (c : Thread nD τ) M fullShare.right.left X ∗ owns (c : Thread nD τ) M fullShare.right.right X) :=
  (owns_halves (c : Thread nD τ) M fullShare X).1.trans (sep_mono_right (owns_halves (c : Thread nD τ) M fullShare.right X).1)
/-- and back. -/
theorem shares_join (c : Dev nD) {s : Shape} {e : EltTy} (M : Memref sig .tc .vmem s e) (X : s.Idx → Elt F e) :
    (iprop(owns (c : Thread nD τ) M fullShare.left X ∗ owns (c : Thread nD τ) M fullShare.right.left X ∗ owns (c : Thread nD τ) M fullShare.right.right X) : sProp 𝕄)
      ⊢ owns (c : Thread nD τ) M fullShare X :=
  (sep_mono_right (owns_halves (c : Thread nD τ) M fullShare.right X).2).trans (owns_halves (c : Thread nD τ) M fullShare X).2

/-! ## Families spelled out -/

theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_grp0 (Φ : Fin 9 → sProp 𝕄) : bigSep (Finset.univ.filter fun s => grp s = 0) Φ = iprop(Φ 0 ∗ Φ 1 ∗ Φ 2 ∗ Φ 6) :=
  bigSep_eq_bigSepL_of_eq [0, 1, 2, 6] (by decide) (by decide) Φ
theorem bigSep_grp1 (Φ : Fin 9 → sProp 𝕄) : bigSep (Finset.univ.filter fun s => grp s = 1) Φ = iprop(Φ 3 ∗ Φ 4 ∗ Φ 5 ∗ Φ 7) :=
  bigSep_eq_bigSepL_of_eq [3, 4, 5, 7] (by decide) (by decide) Φ
theorem bigSep_grp2 (Φ : Fin 9 → sProp 𝕄) : bigSep (Finset.univ.filter fun s => grp s = 2) Φ = Φ 8 :=
  bigSep_eq_bigSepL_of_eq [8] (by decide) (by decide) Φ

/-- The slots of a device's `comm` array, by the partner they are filled by. -/
theorem slots_by_group (Φ : Fin 9 → sProp 𝕄) : bigSep Finset.univ Φ
    ⊢ iprop(bigSep (Finset.univ.filter fun s => grp s = 0) Φ ∗ bigSep (Finset.univ.filter fun s => grp s = 1) Φ ∗ bigSep (Finset.univ.filter fun s => grp s = 2) Φ) := by
  rw [bigSep_nine, bigSep_grp0, bigSep_grp1, bigSep_grp2]
  iintro ⟨H0, H1, H2, H3, H4, H5, H6, H7, H8⟩
  isplitl [H0 H1 H2 H6]
  · isplitl [H0]; · iexact H0
    isplitl [H1]; · iexact H1
    isplitl [H2]; · iexact H2
    iexact H6
  isplitl [H3 H4 H5 H7]
  · isplitl [H3]; · iexact H3
    isplitl [H4]; · iexact H4
    isplitl [H5]; · iexact H5
    iexact H7
  iexact H8

end Cert.AllReduce

end
-- ==== Proof.Body.lean ====
/-
# The kernel's run on one device

The kernel's body, one operation after another, from what a device holds at launch to what it leaves: each row block
of the output at its total, every semaphore of the protocol at zero, nothing owed.
-/
module

public import proofs.«01_k».proof.Proof.Steps
public import proofs.«01_k».proof.Proof.Slices

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Premises one after another. -/
theorem curry₄ {A B C D R : sProp 𝕄} (h : iprop(A ∗ B ∗ C ∗ D) ⊢ R) : A ⊢ iprop(B -∗ C -∗ D -∗ R) := by
  iintro HA HB HC HD
  iapply h
  isplitl [HA]; · iexact HA
  isplitl [HB]; · iexact HB
  isplitl [HC]; · iexact HC
  iexact HD
theorem curry₅ {A B C D E R : sProp 𝕄} (h : iprop(A ∗ B ∗ C ∗ D ∗ E) ⊢ R) : A ⊢ iprop(B -∗ C -∗ D -∗ E -∗ R) := by
  iintro HA HB HC HD HE
  iapply h
  isplitl [HA]; · iexact HA
  isplitl [HB]; · iexact HB
  isplitl [HC]; · iexact HC
  isplitl [HD]; · iexact HD
  iexact HE

variable (m : (ℓ : Loc nD τ sig) → Buf (Elt F) ℓ) (ρ : Dev nD → PrngReg) (K : Dev nD × CellIx → ℕ)

/-- The three inputs of device `c` in its staging buffers. -/
def inputs (c : Dev nD) : sProp 𝕄 :=
  iprop(owns (c : Thread nD τ) xM fullShare (xIn m ρ c) ∗ owns (c : Thread nD τ) w1M fullShare (w1In m ρ c)
    ∗ owns (c : Thread nD τ) w2M fullShare (w2In m ρ c))

/-- What the body starts from: the records, its barrier's position and credit, the tokens of its three signals, every
    slot's copy ready and its incoming one awaited, all it owes, the inputs, and the output and both scratch arrays at
    any contents. -/
def before (c : Dev nD) : sProp 𝕄 :=
  iprop(records m ρ K ∗ levAts L lv
    ∗ (atPos ER (barCell c) 0 ∅ 0 ∗ cred (tallyAt (barCell c) () 3) ∗ bigSep Finset.univ fun k : Fin 3 => dutyTok ER (barCell (peer k c)) 0 k)
    ∗ (bigSep Finset.univ fun s => sendReady c s) ∗ (bigSep Finset.univ fun s => recvFly c s)
    ∗ owing c (O₀ c) ∗ inputs m ρ c
    ∗ (bigSep Finset.univ fun j => iprop(∃ X, owns (c : Thread nD τ) (outRow j) fullShare X))
    ∗ (bigSep Finset.univ fun s => iprop(∃ X, owns (c : Thread nD τ) (sendSlot s) fullShare X))
    ∗ bigSep Finset.univ fun s => freeSlot c s)

/-- What it leaves. -/
def after (c : Dev nD) : sProp 𝕄 :=
  iprop((semVal (barCell c) 0 ∗ (bigSep Finset.univ fun s => sendDone c s) ∗ bigSep Finset.univ fun s => recvDone c s)
    ∗ owing c 0 ∗ inputs m ρ c
    ∗ (bigSep Finset.univ fun j => owns (c : Thread nD τ) (outRow j) fullShare (total m ρ c j))
    ∗ (bigSep Finset.univ fun s => iprop(∃ X, owns (c : Thread nD τ) (sendSlot s) fullShare X))
    ∗ bigSep Finset.univ fun s => freeSlot c s)

set_option maxHeartbeats 4000000 in
set_option maxRecDepth 8000 in
/-- The body runs from the one to the other. -/
theorem run_body (c : Dev nD) (Q : PUnit → sProp 𝕄) :
    before m ρ K c ⊢ iprop((after m ρ c -∗ Q ⟨⟩)
      -∗ run c (cc0_body xM (Memref.isWhole_whole _) w1M (Memref.isWhole_whole _) w2M (Memref.isWhole_whole _) oM (Memref.isWhole_whole _)
          sendM (Memref.isWhole_whole _) commM (Memref.isWhole_whole _) cc0_scratch2 cc0_scratch3) Q) := by
  unfold before inputs
  rw [bigSep_three, bigSep_nine fun s => sendReady c s, bigSep_nine fun s => recvFly c s, bigSep_four, bigSep_nine fun s => iprop(∃ X, owns (c : Thread nD τ) (sendSlot s) fullShare X)]
  iintro ⟨#HR, #HL, ⟨Ba, Bc, HB⟩, HT, HV, HO, ⟨Hx, Hw1, Hw2⟩, HRow, HS, HC⟩ Hk
  ihave HC := (slots_by_group fun s => freeSlot (F := F) c s) $$ HC
  icases HC with ⟨G0, G1, G2⟩
  icases HB with ⟨B0, B1, B2⟩
  icases HT with ⟨T0, T1, T2, T3, T4, T5, T6, T7, T8⟩
  icases HV with ⟨V0, V1, V2, V3, V4, V5, V6, V7, V8⟩
  icases HRow with ⟨⟨%Y0, R0⟩, ⟨%Y1, R1⟩, ⟨%Y2, R2⟩, ⟨%Y3, R3⟩⟩
  icases HS with ⟨⟨%Z0, S0⟩, ⟨%Z1, S1⟩, ⟨%Z2, S2⟩, ⟨%Z3, S3⟩, ⟨%Z4, S4⟩, ⟨%Z5, S5⟩, ⟨%Z6, S6⟩, S7, S8⟩
  irename S7 => E7
  irename S8 => E8
  rw [cc0_body_eq_skeleton]; unfold cc0_body_skel
  -- part 1
  rw [k0_part1_eq_skeleton]; unfold k0_part1_skel
  simp only [semSignalWord, semWaitWord, Prog.lift, Prog.bind_op, Prog.bind_ret, Prog.pure_eq_ret, wp_deviceId]
  unfold O₀
  iapply (curry₄ (signal_step m ρ K c 0 _ (dev1_eq c) (owe c order + tallyAt (barCell (peer 2 c)) () 1 + tallyAt (barCell (peer 1 c)) () 1) (by decide))) $$ HR B0 G0 HO; iintro HO
  iapply (curry₄ (signal_step m ρ K c 1 _ (dev2_eq c) (owe c order + tallyAt (barCell (peer 2 c)) () 1) (by decide))) $$ HR B1 G1 HO; iintro HO
  iapply (curry₄ (signal_step m ρ K c 2 _ (dev3_eq c) (owe c order) (by decide))) $$ HR B2 G2 HO; iintro HO
  iapply (load_within c (M := xM) (r := rowRect 0)) $$ Hx; iintro Hx
  iapply (load_within c (M := w1M)) $$ Hw1; iintro Hw1
  iapply (load_within c (M := w2M)) $$ Hw2; iintro Hw2
  iapply (load_slice c (M := oM) (r := rowRect 0) (fun _ => rfl)) $$ R0; iintro R0
  iapply (store_slice c (M := oM) (r := rowRect 0) (fun _ => rfl) (w := prod m ρ c 0)) $$ R0; iintro R0
  iapply (curry₅ (wait_barrier m ρ K c order (by decide))) $$ HR HL Ba Bc HO; iintro ⟨Ba, ⟨P0, P1, P2⟩, HO⟩
  ihave P0 := (show barPay (F := F) c 0 ⊢ iprop(freeSlot (F := F) (dst 0 c) 0 ∗ freeSlot (F := F) (dst 1 c) 1 ∗ freeSlot (F := F) (dst 2 c) 2 ∗ freeSlot (F := F) (dst 6 c) 6) from Entails.of_eq (bigSep_grp0 fun s => freeSlot (F := F) (peer 0 c) s)) $$ P0
  ihave P1 := (show barPay (F := F) c 1 ⊢ iprop(freeSlot (F := F) (dst 3 c) 3 ∗ freeSlot (F := F) (dst 4 c) 4 ∗ freeSlot (F := F) (dst 5 c) 5 ∗ freeSlot (F := F) (dst 7 c) 7) from Entails.of_eq (bigSep_grp1 fun s => freeSlot (F := F) (peer 1 c) s)) $$ P1
  ihave D8 := (show barPay (F := F) c 2 ⊢ iprop(freeSlot (F := F) (dst 8 c) 8) from Entails.of_eq (bigSep_grp2 fun s => freeSlot (F := F) (peer 2 c) s)) $$ P2
  icases P0 with ⟨D0, D1, D2, D6⟩
  icases P1 with ⟨D3, D4, D5, D7⟩
  -- part 2
  rw [k0_part2_eq_skeleton]; unfold k0_part2_skel
  simp only [semSignalWord, semWaitWord, Prog.lift, Prog.bind_op, Prog.bind_ret, Prog.pure_eq_ret, wp_deviceId]
  iapply (load_slice c (M := sendM) (r := slotRect 0) (fun _ => rfl)) $$ S0; iintro S0
  iapply (store_slice c (M := sendM) (r := slotRect 0) (fun _ => rfl) (w := sent m ρ c 0)) $$ S0; iintro S0
  iapply (curry₅ (copy_step m ρ K c 0 0 fullShare rfl rfl _ (dev4_eq c) [1, 2, 6, 7, 8, 3, 4, 5])) $$ HR T0 S0 D0 HO; iintro ⟨T0, HO⟩
  iapply (load_within c (M := xM) (r := rowRect 1)) $$ Hx; iintro Hx
  iapply (load_within c (M := w1M)) $$ Hw1; iintro Hw1
  iapply (load_within c (M := w2M)) $$ Hw2; iintro Hw2
  iapply (load_slice c (M := oM) (r := rowRect 1) (fun _ => rfl)) $$ R1; iintro R1
  iapply (store_slice c (M := oM) (r := rowRect 1) (fun _ => rfl) (w := prod m ρ c 1)) $$ R1; iintro R1
  iapply (load_slice c (M := sendM) (r := slotRect 1) (fun _ => rfl)) $$ S1; iintro S1
  iapply (store_slice c (M := sendM) (r := slotRect 1) (fun _ => rfl) (w := sent m ρ c 1)) $$ S1; iintro S1
  -- part 3
  rw [k0_part3_eq_skeleton]; unfold k0_part3_skel
  simp only [semSignalWord, semWaitWord, Prog.lift, Prog.bind_op, Prog.bind_ret, Prog.pure_eq_ret, wp_deviceId]
  iapply (curry₅ (copy_step m ρ K c 1 1 fullShare rfl rfl _ (dev5_eq c) [2, 6, 7, 8, 3, 4, 5])) $$ HR T1 S1 D1 HO; iintro ⟨T1, HO⟩
  iapply (load_within c (M := xM) (r := rowRect 2)) $$ Hx; iintro Hx
  iapply (load_within c (M := w1M)) $$ Hw1; iintro Hw1
  iapply (load_within c (M := w2M)) $$ Hw2; iintro Hw2
  iapply (load_slice c (M := oM) (r := rowRect 2) (fun _ => rfl)) $$ R2; iintro R2
  iapply (store_slice c (M := oM) (r := rowRect 2) (fun _ => rfl) (w := prod m ρ c 2)) $$ R2; iintro R2
  iapply (load_slice c (M := sendM) (r := slotRect 2) (fun _ => rfl)) $$ S2; iintro S2
  iapply (store_slice c (M := sendM) (r := slotRect 2) (fun _ => rfl) (w := sent m ρ c 2)) $$ S2; iintro S2
  -- part 4
  rw [k0_part4_eq_skeleton]; unfold k0_part4_skel
  simp only [semSignalWord, semWaitWord, Prog.lift, Prog.bind_op, Prog.bind_ret, Prog.pure_eq_ret, wp_deviceId]
  iapply (curry₅ (copy_step m ρ K c 2 2 fullShare rfl rfl _ (dev6_eq c) [6, 7, 8, 3, 4, 5])) $$ HR T2 S2 D2 HO; iintro ⟨T2, HO⟩
  iapply (load_within c (M := xM) (r := rowRect 3)) $$ Hx; iintro Hx
  iapply (load_within c (M := w1M)) $$ Hw1; iintro Hw1
  iapply (load_within c (M := w2M)) $$ Hw2; iintro Hw2
  iapply (load_slice c (M := oM) (r := rowRect 3) (fun _ => rfl)) $$ R3; iintro R3
  iapply (store_slice c (M := oM) (r := rowRect 3) (fun _ => rfl) (w := prod m ρ c 3)) $$ R3; iintro R3
  iapply (load_slice c (M := sendM) (r := slotRect 6) (fun _ => rfl)) $$ S6; iintro S6
  iapply (store_slice c (M := sendM) (r := slotRect 6) (fun _ => rfl) (w := sent m ρ c 6)) $$ S6; iintro S6
  -- part 5
  rw [k0_part5_eq_skeleton]; unfold k0_part5_skel
  simp only [semSignalWord, semWaitWord, Prog.lift, Prog.bind_op, Prog.bind_ret, Prog.pure_eq_ret, wp_deviceId]
  ihave S6 := (show _ ⊢ iprop(owns (c : Thread nD τ) (sendSlot 6) fullShare.left (sent m ρ c 6) ∗ owns (c : Thread nD τ) (sendSlot 6) fullShare.right.left (sent m ρ c 7)
      ∗ owns (c : Thread nD τ) (sendSlot 6) fullShare.right.right (sent m ρ c 8)) from shares_split c (sendSlot 6) (sent m ρ c 6)) $$ S6
  icases S6 with ⟨S6, S7, S8⟩
  iapply (curry₅ (copy_step m ρ K c 6 6 fullShare.left rfl rfl _ (dev7_eq c) [7, 8, 3, 4, 5])) $$ HR T6 S6 D6 HO; iintro ⟨T6, HO⟩
  iapply (curry₅ (copy_step m ρ K c 7 6 fullShare.right.left rfl rfl _ (dev8_eq c) [8, 3, 4, 5])) $$ HR T7 S7 D7 HO; iintro ⟨T7, HO⟩
  iapply (curry₅ (copy_step m ρ K c 8 6 fullShare.right.right rfl rfl _ (dev9_eq c) [3, 4, 5])) $$ HR T8 S8 D8 HO; iintro ⟨T8, HO⟩
  iapply (curry₄ (wait_send m ρ K c 0 0 fullShare rfl rfl [3, 4, 5] (sendSq_credit 0))) $$ HR HL T0 HO; iintro ⟨T0, S0, HO⟩
  -- part 6
  rw [k0_part6_eq_skeleton]; unfold k0_part6_skel
  simp only [semSignalWord, semWaitWord, Prog.lift, Prog.bind_op, Prog.bind_ret, Prog.pure_eq_ret, wp_deviceId]
  iapply (curry₄ (wait_recv m ρ K c 0 [3, 4, 5] (Or.inr ⟨by decide, by decide⟩) (commSq_credit 0))) $$ HR HL V0 HO; iintro ⟨V0, D0, HO⟩
  iapply (load_slice c (M := oM) (r := rowRect 0) (fun _ => rfl)) $$ R0; iintro R0
  iapply (load_slice c (M := commM) (r := slotRect 0) (fun _ => rfl)) $$ D0; iintro D0
  iapply (load_slice c (M := oM) (r := rowRect 0) (fun _ => rfl)) $$ R0; iintro R0
  iapply (store_slice c (M := oM) (r := rowRect 0) (fun _ => rfl) (w := pair m ρ c 0)) $$ R0; iintro R0
  iapply (load_slice c (M := sendM) (r := slotRect 3) (fun _ => rfl)) $$ S3; iintro S3
  iapply (store_slice c (M := sendM) (r := slotRect 3) (fun _ => rfl) (w := sent m ρ c 3)) $$ S3; iintro S3
  -- part 7
  rw [k0_part7_eq_skeleton]; unfold k0_part7_skel
  simp only [semSignalWord, semWaitWord, Prog.lift, Prog.bind_op, Prog.bind_ret, Prog.pure_eq_ret, wp_deviceId]
  iapply (curry₅ (copy_step m ρ K c 3 3 fullShare rfl rfl _ (dev10_eq c) [4, 5])) $$ HR T3 S3 D3 HO; iintro ⟨T3, HO⟩
  iapply (curry₄ (wait_send m ρ K c 1 1 fullShare rfl rfl [4, 5] (sendSq_credit 1))) $$ HR HL T1 HO; iintro ⟨T1, S1, HO⟩
  iapply (curry₄ (wait_recv m ρ K c 1 [4, 5] (Or.inr ⟨by decide, by decide⟩) (commSq_credit 1))) $$ HR HL V1 HO; iintro ⟨V1, D1, HO⟩
  iapply (load_slice c (M := oM) (r := rowRect 1) (fun _ => rfl)) $$ R1; iintro R1
  iapply (load_slice c (M := commM) (r := slotRect 1) (fun _ => rfl)) $$ D1; iintro D1
  iapply (load_slice c (M := oM) (r := rowRect 1) (fun _ => rfl)) $$ R1; iintro R1
  iapply (store_slice c (M := oM) (r := rowRect 1) (fun _ => rfl) (w := pair m ρ c 1)) $$ R1; iintro R1
  iapply (load_slice c (M := sendM) (r := slotRect 4) (fun _ => rfl)) $$ S4; iintro S4
  -- part 8
  rw [k0_part8_eq_skeleton]; unfold k0_part8_skel
  simp only [semSignalWord, semWaitWord, Prog.lift, Prog.bind_op, Prog.bind_ret, Prog.pure_eq_ret, wp_deviceId]
  iapply (store_slice c (M := sendM) (r := slotRect 4) (fun _ => rfl) (w := sent m ρ c 4)) $$ S4; iintro S4
  iapply (curry₅ (copy_step m ρ K c 4 4 fullShare rfl rfl _ (dev11_eq c) [5])) $$ HR T4 S4 D4 HO; iintro ⟨T4, HO⟩
  iapply (curry₄ (wait_send m ρ K c 2 2 fullShare rfl rfl [5] (sendSq_credit 2))) $$ HR HL T2 HO; iintro ⟨T2, S2, HO⟩
  iapply (curry₄ (wait_recv m ρ K c 2 [5] (Or.inr ⟨by decide, by decide⟩) (commSq_credit 2))) $$ HR HL V2 HO; iintro ⟨V2, D2, HO⟩
  iapply (load_slice c (M := oM) (r := rowRect 2) (fun _ => rfl)) $$ R2; iintro R2
  -- part 9
  rw [k0_part9_eq_skeleton]; unfold k0_part9_skel
  simp only [semSignalWord, semWaitWord, Prog.lift, Prog.bind_op, Prog.bind_ret, Prog.pure_eq_ret, wp_deviceId]
  iapply (load_slice c (M := commM) (r := slotRect 2) (fun _ => rfl)) $$ D2; iintro D2
  iapply (load_slice c (M := oM) (r := rowRect 2) (fun _ => rfl)) $$ R2; iintro R2
  iapply (store_slice c (M := oM) (r := rowRect 2) (fun _ => rfl) (w := pair m ρ c 2)) $$ R2; iintro R2
  iapply (load_slice c (M := sendM) (r := slotRect 5) (fun _ => rfl)) $$ S5; iintro S5
  iapply (store_slice c (M := sendM) (r := slotRect 5) (fun _ => rfl) (w := sent m ρ c 5)) $$ S5; iintro S5
  iapply (curry₅ (copy_step m ρ K c 5 5 fullShare rfl rfl _ (dev12_eq c) [])) $$ HR T5 S5 D5 HO; iintro ⟨T5, HO⟩
  iapply (curry₄ (wait_send m ρ K c 3 3 fullShare rfl rfl [] (sendSq_credit 3))) $$ HR HL T3 HO; iintro ⟨T3, S3, HO⟩
  -- part 10
  rw [k0_part10_eq_skeleton]; unfold k0_part10_skel
  simp only [semSignalWord, semWaitWord, Prog.lift, Prog.bind_op, Prog.bind_ret, Prog.pure_eq_ret, wp_deviceId]
  iapply (curry₄ (wait_recv m ρ K c 3 [] (Or.inl rfl) (commSq_credit 3))) $$ HR HL V3 HO; iintro ⟨V3, D3, HO⟩
  iapply (load_slice c (M := oM) (r := rowRect 0) (fun _ => rfl)) $$ R0; iintro R0
  iapply (load_slice c (M := commM) (r := slotRect 3) (fun _ => rfl)) $$ D3; iintro D3
  iapply (load_slice c (M := oM) (r := rowRect 0) (fun _ => rfl)) $$ R0; iintro R0
  iapply (store_slice c (M := oM) (r := rowRect 0) (fun _ => rfl) (w := total m ρ c 0)) $$ R0; iintro R0
  iapply (curry₄ (wait_send m ρ K c 4 4 fullShare rfl rfl [] (sendSq_credit 4))) $$ HR HL T4 HO; iintro ⟨T4, S4, HO⟩
  -- part 11
  rw [k0_part11_eq_skeleton]; unfold k0_part11_skel
  simp only [semSignalWord, semWaitWord, Prog.lift, Prog.bind_op, Prog.bind_ret, Prog.pure_eq_ret, wp_deviceId]
  iapply (curry₄ (wait_recv m ρ K c 4 [] (Or.inl rfl) (commSq_credit 4))) $$ HR HL V4 HO; iintro ⟨V4, D4, HO⟩
  iapply (load_slice c (M := oM) (r := rowRect 1) (fun _ => rfl)) $$ R1; iintro R1
  iapply (load_slice c (M := commM) (r := slotRect 4) (fun _ => rfl)) $$ D4; iintro D4
  iapply (load_slice c (M := oM) (r := rowRect 1) (fun _ => rfl)) $$ R1; iintro R1
  iapply (store_slice c (M := oM) (r := rowRect 1) (fun _ => rfl) (w := total m ρ c 1)) $$ R1; iintro R1
  iapply (curry₄ (wait_send m ρ K c 5 5 fullShare rfl rfl [] (sendSq_credit 5))) $$ HR HL T5 HO; iintro ⟨T5, S5, HO⟩
  iapply (curry₄ (wait_recv m ρ K c 5 [] (Or.inl rfl) (commSq_credit 5))) $$ HR HL V5 HO; iintro ⟨V5, D5, HO⟩
  iapply (load_slice c (M := oM) (r := rowRect 2) (fun _ => rfl)) $$ R2; iintro R2
  -- part 12
  rw [k0_part12_eq_skeleton]; unfold k0_part12_skel
  simp only [semSignalWord, semWaitWord, Prog.lift, Prog.bind_op, Prog.bind_ret, Prog.pure_eq_ret, wp_deviceId]
  iapply (load_slice c (M := commM) (r := slotRect 5) (fun _ => rfl)) $$ D5; iintro D5
  iapply (load_slice c (M := oM) (r := rowRect 2) (fun _ => rfl)) $$ R2; iintro R2
  iapply (store_slice c (M := oM) (r := rowRect 2) (fun _ => rfl) (w := total m ρ c 2)) $$ R2; iintro R2
  iapply (curry₄ (wait_recv m ρ K c 6 [] (Or.inl rfl) (commSq_credit 6))) $$ HR HL V6 HO; iintro ⟨V6, D6, HO⟩
  iapply (curry₄ (wait_recv m ρ K c 7 [] (Or.inl rfl) (commSq_credit 7))) $$ HR HL V7 HO; iintro ⟨V7, D7, HO⟩
  -- part 13
  rw [k0_part13_eq_skeleton]; unfold k0_part13_skel
  simp only [semSignalWord, semWaitWord, Prog.lift, Prog.bind_op, Prog.bind_ret, Prog.pure_eq_ret, wp_deviceId]
  iapply (curry₄ (wait_recv m ρ K c 8 [] (Or.inl rfl) (commSq_credit 8))) $$ HR HL V8 HO; iintro ⟨V8, D8, HO⟩
  iapply (load_slice c (M := oM) (r := rowRect 3) (fun _ => rfl)) $$ R3; iintro R3
  iapply (load_slice c (M := commM) (r := slotRect 6) (fun _ => rfl)) $$ D6; iintro D6
  iapply (load_slice c (M := commM) (r := slotRect 7) (fun _ => rfl)) $$ D7; iintro D7
  iapply (load_slice c (M := commM) (r := slotRect 8) (fun _ => rfl)) $$ D8; iintro D8
  iapply (load_slice c (M := oM) (r := rowRect 3) (fun _ => rfl)) $$ R3; iintro R3
  iapply (store_slice c (M := oM) (r := rowRect 3) (fun _ => rfl) (w := total m ρ c 3)) $$ R3; iintro R3
  iapply (curry₄ (wait_send m ρ K c 6 6 fullShare.left rfl rfl [] (sendSq_credit 6))) $$ HR HL T6 HO; iintro ⟨T6, S6, HO⟩
  iapply (curry₄ (wait_send m ρ K c 7 6 fullShare.right.left rfl rfl [] (sendSq_credit 6))) $$ HR HL T7 HO; iintro ⟨T7, S7, HO⟩
  iapply (curry₄ (wait_send m ρ K c 8 6 fullShare.right.right rfl rfl [] (sendSq_credit 6))) $$ HR HL T8 HO; iintro ⟨T8, S8, HO⟩
  unfold run; rw [wp_ret]; imodintro
  ihave S6 := (show iprop(owns (c : Thread nD τ) (sendSlot 6) fullShare.left (sent m ρ c 6) ∗ owns (c : Thread nD τ) (sendSlot 6) fullShare.right.left (sent m ρ c 7)
      ∗ owns (c : Thread nD τ) (sendSlot 6) fullShare.right.right (sent m ρ c 8)) ⊢ owns (c : Thread nD τ) (sendSlot 6) fullShare (sent m ρ c 6)
      from shares_join c (sendSlot 6) (sent m ρ c 6)) $$ [S6 S7 S8]
  · isplitl [S6]; · iexact S6
    isplitl [S7]; · iexact S7
    iexact S8
  ihave HO := (show owing c (owe c []) ⊢ owing (F := F) c 0 from Entails.refl _) $$ HO
  iapply Hk
  unfold after inputs
  rw [bigSep_nine fun s => sendDone c s, bigSep_nine fun s => recvDone c s, bigSep_four, bigSep_nine fun s => iprop(∃ X, owns (c : Thread nD τ) (sendSlot s) fullShare X), bigSep_nine]
  isplitl [Ba T0 T1 T2 T3 T4 T5 T6 T7 T8 V0 V1 V2 V3 V4 V5 V6 V7 V8]
  · isplitl [Ba]; · iexact Ba
    isplitl [T0 T1 T2 T3 T4 T5 T6 T7 T8]
    · isplitl [T0]; · iexact T0
      isplitl [T1]; · iexact T1
      isplitl [T2]; · iexact T2
      isplitl [T3]; · iexact T3
      isplitl [T4]; · iexact T4
      isplitl [T5]; · iexact T5
      isplitl [T6]; · iexact T6
      isplitl [T7]; · iexact T7
      iexact T8
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    iexact V8
  isplitl [HO]; · iexact HO
  isplitl [Hx Hw1 Hw2]
  · isplitl [Hx]; · iexact Hx
    isplitl [Hw1]; · iexact Hw1
    iexact Hw2
  isplitl [R0 R1 R2 R3]
  · isplitl [R0]; · iexact R0
    isplitl [R1]; · iexact R1
    isplitl [R2]; · iexact R2
    iexact R3
  isplitl [S0 S1 S2 S3 S4 S5 S6 E7 E8]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [E7]; · iexact E7
    iexact E8
  unfold freeSlot
  isplitl [D0]; · iexists _; iexact D0
  isplitl [D1]; · iexists _; iexact D1
  isplitl [D2]; · iexists _; iexact D2
  isplitl [D3]; · iexists _; iexact D3
  isplitl [D4]; · iexists _; iexact D4
  isplitl [D5]; · iexists _; iexact D5
  isplitl [D6]; · iexists _; iexact D6
  isplitl [D7]; · iexists _; iexact D7
  iexists _; iexact D8

end Cert.AllReduce

end
-- ==== Proof.Deal.lean ====
/-
# What the launch deals

The launch mints every cell of the protocol with its round's tokens. Device by device the cells' invariants are
allocated on the semaphore counters; then each token goes to the device that performs its duty: the tokens of a
barrier cell and of an incoming copy's cell to the partner that signals or copies.
-/
module

public import proofs.«01_k».proof.Proof.Steps
public import proofs.«01_k».proof.Proof.Slices

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-! ## Cells and tokens -/

theorem ownSemFacts : Pipeline.OwnSemFacts cfg0.spec osem := by decide +kernel

theorem csem_injective : Function.Injective csem := by decide +kernel

theorem kcell_injective : Function.Injective (kcell : Dev nD × CellIx → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All cells of the protocol. -/
def allCells : Finset (GSem nD τ sig) := Finset.univ.map ⟨kcell, kcell_injective⟩

/-- The duties of a device's cells: the barrier's three, each other cell's one. -/
abbrev TokIx : Type := Fin 3 ⊕ Own
abbrev tokOf (x : Dev nD × TokIx) : GSem nD τ sig × ℕ × Duty := match x.2 with
  | .inl k => (barCell x.1, 0, k)
  | .inr k => (kcell (x.1, .inr k), 0, 0)

theorem tokOf_injective : Function.Injective (tokOf : Dev nD × TokIx → GSem nD τ sig × ℕ × Duty) := by
  rintro ⟨c, k | k⟩ ⟨c', k' | k'⟩ h
  · have h1 := kcell_injective (congrArg Prod.fst h)
    have h2 : k = k' := congrArg (fun x : GSem nD τ sig × ℕ × Duty => x.2.2) h
    have h3 : c = c' := congrArg Prod.fst h1
    rw [h3, h2]
  · exact absurd (congrArg Prod.snd (kcell_injective (congrArg Prod.fst h))) (by simp)
  · exact absurd (congrArg Prod.snd (kcell_injective (congrArg Prod.fst h))) (by simp)
  · have h1 := kcell_injective (congrArg Prod.fst h)
    have h2 : c = c' := congrArg Prod.fst h1
    have h3 : k = k' := Sum.inr.inj (congrArg Prod.snd h1)
    rw [h2, h3]

def allToks : Finset (GSem nD τ sig × ℕ × Duty) := Finset.univ.map ⟨tokOf, tokOf_injective⟩

/-- The launch's ghost element. -/
def u₀ : UU :=
  (initOf (Pipeline.cells cfgs cellOf_inj) (Pipeline.launchToks cfgs cellOf_inj), initOf allCells allToks)

/-- A family over a device's cells: the barrier's, the outgoing copies', the incoming copies'. -/
theorem cells_split (Φ : CellIx → sProp 𝕄) : bigSep Finset.univ Φ
    = iprop(Φ (.inl ()) ∗ (bigSep Finset.univ fun s => Φ (.inr (.inl s))) ∗ bigSep Finset.univ fun s => Φ (.inr (.inr s))) := by
  rw [BI.bigSep_univ_sum, BI.bigSep_univ_sum, bigSep_univ_eq_bigSepL [()] (by decide) (by decide)]; rfl

/-- The tokens of device `c`'s own cells. -/
def toks (c : Dev nD) : sProp 𝕄 :=
  iprop((bigSep Finset.univ fun k : Fin 3 => dutyTok ER (barCell c) 0 k)
    ∗ (bigSep Finset.univ fun s => dutyTok ER (sendCell c s) 0 0) ∗ bigSep Finset.univ fun s => dutyTok ER (recvCell c s) 0 0)

/-- What the launch's element deals device `c`, -/
def G (c : Dev nD) : sProp 𝕄 :=
  iprop((bigSep Finset.univ fun k : CellIx => roundState ER (rd m ρ) (kcell (c, k)) 0)
    ∗ (bigSep Finset.univ fun k : CellIx => iprop(atPos ER (kcell (c, k)) 0 ∅ 0 ∗ reached ER (kcell (c, k)) 0)) ∗ toks c)

/-- what the device starts from, -/
def ghost (c : Dev nD) : sProp 𝕄 :=
  iprop(records m ρ K ∗ atPos ER (barCell c) 0 ∅ 0 ∗ (bigSep Finset.univ fun k : Fin 3 => dutyTok ER (barCell (peer k c)) 0 k)
    ∗ (bigSep Finset.univ fun s => sendReady c s) ∗ bigSep Finset.univ fun s => atPos ER (recvCell c s) 0 ∅ 0)

/-- at some names of the invariants. -/
def G' (c : Dev nD) : sProp 𝕄 := iprop(∃ K, ghost m ρ K c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum, BI.bigSep_univ_sum]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop((bigSep Finset.univ fun s => sendDone c s) ∗ bigSep Finset.univ fun s => recvDone c s) := by
  unfold Pipeline.ownSems0; rw [BI.bigSep_univ_sum]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, cells_split]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k : CellIx => iprop(atPos ER (kcell (c, k)) 0 ∅ 0 ∗ reached ER (kcell (c, k)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun k : CellIx => semVal (kcell (c, k)) 0) ∗ bigSep Finset.univ fun k : CellIx => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens to the partners -/

/-- A family over devices and labels, each label naming a partner, is the same dealt to the partners. -/
theorem deal {T : Type} [Fintype T] (g : T → Fin 3) (Φ : Dev nD → T → sProp 𝕄) :
    (bigSep Finset.univ fun c => bigSep Finset.univ fun t => Φ c t) = bigSep Finset.univ fun c => bigSep Finset.univ fun t => Φ (peer (g t) c) t := by
  let e : Dev nD × T ≃ Dev nD × T := ⟨fun x => (peer (g x.2) x.1, x.2), fun x => (peer (g x.2) x.1, x.2),
    fun x => Prod.ext (peer_peer _ _) rfl, fun x => Prod.ext (peer_peer _ _) rfl⟩
  rw [← bigSep_univ_prod (fun x : Dev nD × T => Φ x.1 x.2), bigSep_univ_equiv e, bigSep_univ_prod]; rfl

/-- What stays with device `c`: its positions, and the tokens of the duties it performs. -/
def linear (c : Dev nD) : sProp 𝕄 :=
  iprop((bigSep Finset.univ fun k : CellIx => atPos ER (kcell (c, k)) 0 ∅ 0)
    ∗ (bigSep Finset.univ fun k : Fin 3 => dutyTok ER (barCell (peer k c)) 0 k)
    ∗ (bigSep Finset.univ fun s => dutyTok ER (sendCell c s) 0 0) ∗ bigSep Finset.univ fun s => dutyTok ER (recvCell (dst s c) s) 0 0)

theorem ghost_intro (c : Dev nD) : iprop(records m ρ K ∗ linear c) ⊢ G' m ρ c := by
  have ready : iprop((bigSep Finset.univ fun s => atPos ER (sendCell c s) 0 ∅ 0) ∗ (bigSep Finset.univ fun s => dutyTok ER (sendCell c s) 0 0)
      ∗ bigSep Finset.univ fun s => dutyTok ER (recvCell (dst s c) s) 0 0) ⊢ (bigSep Finset.univ fun s => sendReady c s : sProp 𝕄) := by
    rw [← bigSep_sep', ← bigSep_sep']; exact Entails.refl _
  unfold linear G' ghost
  rw [cells_split]
  iintro ⟨#HR, ⟨Hb, Hs, Hr⟩, Hk, Hts, Htr⟩
  iexists K
  isplitr; · iexact HR
  isplitl [Hb]; · iexact Hb
  isplitl [Hk]; · iexact Hk
  isplitr [Hr]
  · iapply ready
    isplitl [Hs]; · iexact Hs
    isplitl [Hts] <;> iassumption
  iexact Hr

theorem toks_dealt : (bigSep Finset.univ fun c : Dev nD => (toks c : sProp 𝕄))
    ⊢ iprop((bigSep Finset.univ fun c : Dev nD => bigSep Finset.univ fun k : Fin 3 => dutyTok ER (barCell (peer k c)) 0 k)
      ∗ (bigSep Finset.univ fun c : Dev nD => bigSep Finset.univ fun s => dutyTok ER (sendCell c s) 0 0)
      ∗ bigSep Finset.univ fun c : Dev nD => bigSep Finset.univ fun s => dutyTok ER (recvCell (dst s c) s) 0 0) := by
  unfold toks
  rw [bigSep_sep', bigSep_sep', deal (fun k => k) (fun c k => dutyTok ER (barCell c) 0 k), deal grp (fun c s => dutyTok ER (recvCell c s) 0 0)]

/-- Something persistent may be used at every member of a family. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k : CellIx => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CellIx => iprop(∃ κ : ℕ, cellInv ER (rd m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (rd m ρ) κ (kcell ck) : sProp 𝕄))) $$ HI
  icases HK with ⟨%K, #HI⟩
  ihave Htk := (toks_dealt (F := F)) $$ Htok
  iapply (bigSep_using (R := records m ρ K) fun c _ => ghost_intro m ρ K c)
  isplitr
  · unfold records; isplitl; · iexact HI
    iexact HR
  · iapply (show iprop((bigSep Finset.univ fun c : Dev nD => bigSep Finset.univ fun k : CellIx => atPos ER (kcell (c, k)) 0 ∅ 0)
        ∗ (bigSep Finset.univ fun c : Dev nD => bigSep Finset.univ fun k : Fin 3 => dutyTok ER (barCell (peer k c)) 0 k)
        ∗ (bigSep Finset.univ fun c : Dev nD => bigSep Finset.univ fun s => dutyTok ER (sendCell c s) 0 0)
        ∗ bigSep Finset.univ fun c : Dev nD => bigSep Finset.univ fun s => dutyTok ER (recvCell (dst s c) s) 0 0)
        ⊢ (bigSep Finset.univ fun c : Dev nD => linear c : sProp 𝕄) from by
          unfold linear; rw [bigSep_sep', bigSep_sep', bigSep_sep'])
    isplitl [Hat]; · iexact Hat
    iexact Htk

/-- The launch's step over all devices at once: what each starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

/-- Of the copies in a list, device `d` owes the cell of device `c`'s slot `s` one if it is the slot's sender. -/
theorem owe_recv (d c : Dev nD) (s : Fin 9) : ∀ l : List (Fin 9), l.Nodup →
    owe d l (recvCell c s) () = if s ∈ l ∧ d = dst s c then N else 0
  | [], _ => by rw [if_neg fun h => List.not_mem_nil h.1]; rfl
  | t :: l, hl => by
    obtain ⟨ht, hl⟩ := List.nodup_cons.mp hl
    show owe d l (recvCell c s) () + (tallyAt (recvCell (dst t d) t) () N : CellTallies nD τ sig Unit) (recvCell c s) () = _
    rw [owe_recv d c s l hl, tallyAt_apply]
    by_cases hs : s = t
    · subst hs
      rw [if_neg fun h => ht h.1, Nat.zero_add]
      by_cases hd : d = dst s c
      · subst hd; rw [if_pos ⟨by rw [show dst s (dst s c) = c from peer_peer _ _], rfl⟩, if_pos ⟨List.mem_cons_self, rfl⟩]
      · rw [if_neg fun h => hd ?_, if_neg fun h => hd h.2]
        have h1 : c = dst s d := congrArg Prod.fst (kcell_injective h.1)
        rw [h1]; exact (peer_peer _ _).symm
    · rw [if_neg (c := recvCell c s = _ ∧ _) fun h => hs (Sum.inr.inj (Sum.inr.inj (congrArg Prod.snd (kcell_injective h.1)))), Nat.add_zero]
      exact if_congr (by rw [List.mem_cons]; exact ⟨fun h => ⟨Or.inr h.1, h.2⟩, fun h => ⟨h.1.resolve_left hs, h.2⟩⟩) rfl rfl

theorem bar_ne_recv (a b : Dev nD) (s : Fin 9) : barCell a ≠ recvCell b s := fun h => by
  have := congrArg Prod.snd (kcell_injective h); simp at this

theorem bar_at (k : Fin 3) (d c : Dev nD) :
    (tallyAt (barCell (peer k d)) () 1 : CellTallies nD τ sig Unit) (barCell c) () = if d = peer k c then 1 else 0 := by
  rw [tallyAt_apply]
  refine if_congr ⟨fun h => ?_, fun h => ⟨?_, rfl⟩⟩ rfl rfl
  · have h1 : c = peer k d := congrArg Prod.fst (kcell_injective h.1)
    rw [h1]; exact (peer_peer _ _).symm
  · subst h; rw [peer_peer]

theorem order_mem (s : Fin 9) : s ∈ order := by revert s; decide

theorem owed_recv (d c : Dev nD) (s : Fin 9) : O₀ d (recvCell c s) () = if d = dst s c then N else 0 := by
  have hb (k : Fin 3) : (tallyAt (barCell (peer k d)) () 1 : CellTallies nD τ sig Unit) (recvCell c s) () = 0 := by
    rw [tallyAt_apply]; exact if_neg fun h => bar_ne_recv _ _ _ h.1.symm
  unfold O₀
  rw [Pi.add_apply, Finsupp.add_apply, Pi.add_apply, Finsupp.add_apply, Pi.add_apply, Finsupp.add_apply, hb, hb, hb, owe_recv d c s order (by decide)]
  exact if_congr ⟨fun h => h.2, fun h => ⟨order_mem s, h⟩⟩ rfl rfl

theorem owed_bar (d c : Dev nD) : O₀ d (barCell c) () = (if d = peer 2 c then 1 else 0) + (if d = peer 1 c then 1 else 0) + (if d = peer 0 c then 1 else 0) := by
  have h0 : owe d order (barCell c) () = 0 := Nat.eq_zero_of_not_pos fun h => by
    obtain ⟨s, -, hs⟩ := owe_pos h; exact bar_ne_recv _ _ _ hs
  unfold O₀
  rw [Pi.add_apply, Finsupp.add_apply, Pi.add_apply, Finsupp.add_apply, Pi.add_apply, Finsupp.add_apply, h0, bar_at, bar_at, bar_at, Nat.zero_add]

theorem launch_recv (c : Dev nD) (s : Fin 9) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (dst s c) fun _ => N,
    if_pos (Finset.mem_univ _)]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 0 c) fun _ => 1, Finset.sum_ite_eq' Finset.univ (peer 1 c) fun _ => 1, Finset.sum_ite_eq' Finset.univ (peer 2 c) fun _ => 1,
    if_pos (Finset.mem_univ _), if_pos (Finset.mem_univ _), if_pos (Finset.mem_univ _)]

/-- Of the launch's credit a device takes its barrier's three units and each incoming copy's. -/
theorem creds (c : Dev nD) :
    (Pipeline.launchCred O₀ c : sProp 𝕄) ⊢ iprop(cred (tallyAt (barCell c) () 3) ∗ bigSep Finset.univ fun s => cred (tallyAt (recvCell c s) () N)) := by
  unfold Pipeline.launchCred
  rw [bigSep_univ_at _ (SemLoc.reg barS), launch_bar]
  refine sep_mono_right ?_
  let e : Fin 9 ↪ SemLoc sig := ⟨fun s => .dma (recvSem s), fun s t h => Sum.inr.inj (Sum.inr.inj (@csem_injective (.inr (.inr s)) (.inr (.inr t)) h))⟩
  have sub : Finset.univ.map e ⊆ Finset.univ.erase (SemLoc.reg barS) := fun x hx => by
    obtain ⟨s, hs⟩ := Finset.mem_map.mp hx
    rw [← hs.2]
    exact Finset.mem_erase.mpr ⟨(fun h => by cases h), Finset.mem_univ _⟩
  refine (show _ ⊢ _ from BI.bigSep_subset sub).trans (Entails.of_eq ?_)
  rw [bigSep_map]
  exact bigSep_congr fun s _ => congrArg cred (launch_recv c s)

end Cert.AllReduce

end
-- ==== Proof.Run.lean ====
/-
# The program's run

The pipeline stages the three arguments, runs the kernel's body once and writes the output back. From any memory with
zero counters the run on the four devices ends, every counter at zero again, the arguments unchanged and each
device's result array holding `outAt`.
-/
module

public import proofs.«01_k».proof.Proof.Body
public import proofs.«01_k».proof.Proof.Deal
public import proofs.«01_k».proof.Proof.Gen.KernelIdeal.Points
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## The result -/

theorem exists_out (c : Dev nD) : ∃ Y : S256x256.Idx → Elt F .f32, ∀ t j, Y ((rowRect t).emb j) = total m ρ c t j :=
  haveI : Nonempty (Elt F .f32) := Elt.nonempty F .f32
  exists_glue rowRect row_disjoint (total m ρ c)

/-- Device `c`'s result: the array with the row blocks `total m ρ c`. -/
def outAt (c : Dev nD) : S256x256.Idx → Elt F .f32 := (exists_out m ρ c).choose

theorem outAt_row (c : Dev nD) (t : Fin 4) (j : S64x256.Idx) : outAt m ρ c ((rowRect t).emb j) = total m ρ c t j :=
  (exists_out m ρ c).choose_spec t j

/-! ## What the pipeline runs -/

/-- What device `c`'s body starts from besides its buffers. -/
def start (c : Dev nD) : sProp 𝕄 :=
  iprop(G' m ρ c ∗ (cred (tallyAt (barCell c) () 3) ∗ bigSep Finset.univ fun s => cred (tallyAt (recvCell c s) () N)) ∗ levAts L lv)

/-- Both scratch arrays, at any contents. -/
def scratch (c : Dev nD) : sProp 𝕄 :=
  iprop((∃ X, owns (c : Thread nD τ) sendM fullShare X) ∗ ∃ X, owns (c : Thread nD τ) commM fullShare X)

/-- The protocol's counters, at zero. -/
def zeros (c : Dev nD) : sProp 𝕄 :=
  iprop(semVal (barCell c) 0 ∗ (bigSep Finset.univ fun s => sendDone c s) ∗ bigSep Finset.univ fun s => recvDone c s)

def Φ₀ (c : Dev nD) : sProp 𝕄 := iprop(start m ρ c ∗ scratch c)
def Φ₁ (c : Dev nD) : sProp 𝕄 := iprop(zeros c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => w1In m ρ c
    | ⟨2, _⟩ => w2In m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The scratch arrays are the slots of both, at any contents. -/
theorem scratch_split (c : Dev nD) : (scratch c : sProp 𝕄)
    ⊢ iprop((bigSep Finset.univ fun s => iprop(∃ X, owns (c : Thread nD τ) (sendSlot s) fullShare X)) ∗ bigSep Finset.univ fun s => freeSlot (F := F) c s) := by
  unfold scratch
  iintro ⟨H1, H2⟩
  isplitl [H1]
  · iapply (slots_split c sendM); iexact H1
  · iapply (show iprop(∃ X, owns (c : Thread nD τ) commM fullShare X) ⊢ bigSep Finset.univ fun s => freeSlot (F := F) c s from slots_split c commM); iexact H2
theorem scratch_join (c : Dev nD) :
    (iprop((bigSep Finset.univ fun s => iprop(∃ X, owns (c : Thread nD τ) (sendSlot s) fullShare X)) ∗ bigSep Finset.univ fun s => freeSlot (F := F) c s) : sProp 𝕄)
      ⊢ scratch c := by
  unfold scratch
  iintro ⟨H1, H2⟩
  isplitl [H1]
  · iapply (slots_join c sendM); iexact H1
  · iapply (show (bigSep Finset.univ fun s => freeSlot (F := F) c s) ⊢ iprop(∃ X, owns (c : Thread nD τ) commM fullShare X) from slots_join c commM); iexact H2

def bodyPre (c : Dev nD) : sProp 𝕄 :=
  iprop(Φ₀ m ρ c ∗ (dats m ρ 0 c).owesAt () t0_0.castSucc
    ∗ (∃ d, owns (c : Thread nD τ) xM fullShare ((dats m ρ 0 c).before (0 : Fin 4) t0_0 d))
    ∗ (∃ d, owns (c : Thread nD τ) w1M fullShare ((dats m ρ 0 c).before (1 : Fin 4) t0_0 d))
    ∗ (∃ d, owns (c : Thread nD τ) w2M fullShare ((dats m ρ 0 c).before (2 : Fin 4) t0_0 d))
    ∗ (∃ d, owns (c : Thread nD τ) oM fullShare ((dats m ρ 0 c).before (3 : Fin 4) t0_0 d)))

def bodyPost (c : Dev nD) : sProp 𝕄 :=
  iprop(Φ₁ c ∗ (dats m ρ 0 c).owesAt () t0_0.succ
    ∗ owns (c : Thread nD τ) xM fullShare (xIn m ρ c) ∗ owns (c : Thread nD τ) w1M fullShare (w1In m ρ c)
    ∗ owns (c : Thread nD τ) w2M fullShare (w2In m ρ c) ∗ owns (c : Thread nD τ) oM fullShare (outAt m ρ c))

theorem before_x (c : Dev nD) (d) : (dats m ρ 0 c).before (0 : Fin 4) t0_0 d = xIn m ρ c := by
  unfold Dat.before; rw [if_pos (fetch0_0 t0_0)]; rfl
theorem before_w1 (c : Dev nD) (d) : (dats m ρ 0 c).before (1 : Fin 4) t0_0 d = w1In m ρ c := by
  unfold Dat.before; rw [if_pos (fetch0_1 t0_0)]; rfl
theorem before_w2 (c : Dev nD) (d) : (dats m ρ 0 c).before (2 : Fin 4) t0_0 d = w2In m ρ c := by
  unfold Dat.before; rw [if_pos (fetch0_2 t0_0)]; rfl

theorem owing_intro (c : Dev nD) : (dats m ρ 0 c).owesAt () t0_0.castSucc ⊢ owing c (O₀ c) := by
  unfold Dat.owesAt Pipeline.owesWithin owing
  iintro ⟨%W, %hW, HO⟩
  iexists W
  iexact HO
theorem owing_elim (c : Dev nD) : owing c 0 ⊢ (dats m ρ 0 c).owesAt () t0_0.succ := by
  unfold Dat.owesAt Pipeline.owesWithin owing
  iintro ⟨%W, HO⟩
  iexists W
  isplitr; · ipureintro; exact fun _ _ => Or.inl trivial
  iexact HO

theorem enter (c : Dev nD) : bodyPre m ρ c ⊢ iprop(∃ K, before m ρ K c) := by
  have fly : iprop((bigSep Finset.univ fun s => atPos ER (recvCell c s) 0 ∅ 0) ∗ bigSep Finset.univ fun s => cred (tallyAt (recvCell c s) () N))
      ⊢ (bigSep Finset.univ fun s => recvFly c s : sProp 𝕄) := by rw [← bigSep_sep']; exact Entails.refl _
  unfold bodyPre Φ₀ start G' ghost
  iintro ⟨⟨⟨⟨%K, HR, Hb, Hk, Hs, Hr⟩, ⟨Hc, Hcr⟩, HL⟩, Hsc⟩, HO, ⟨%d0, Hx⟩, ⟨%d1, Hw1⟩, ⟨%d2, Hw2⟩, ⟨%d3, Ho⟩⟩
  rw [before_x, before_w1, before_w2]
  ihave Hsc := (scratch_split c) $$ Hsc
  icases Hsc with ⟨Hsend, Hcomm⟩
  iexists K
  unfold before inputs
  isplitl [HR]; · iexact HR
  isplitl [HL]; · iexact HL
  isplitl [Hb Hc Hk]
  · isplitl [Hb]; · iexact Hb
    isplitl [Hc]; · iexact Hc
    iexact Hk
  isplitl [Hs]; · iexact Hs
  isplitl [Hr Hcr]
  · iapply fly
    isplitl [Hr]; · iexact Hr
    iexact Hcr
  isplitl [HO]; · iapply (owing_intro m ρ c); iexact HO
  isplitl [Hx Hw1 Hw2]
  · isplitl [Hx]; · iexact Hx
    isplitl [Hw1]; · iexact Hw1
    iexact Hw2
  isplitl [Ho]; · iapply (rows_split c _); iexact Ho
  isplitl [Hsend]; · iexact Hsend
  iexact Hcomm

theorem leave (c : Dev nD) : after m ρ c ⊢ bodyPost m ρ c := by
  unfold after inputs bodyPost Φ₁
  iintro ⟨Hz, HO, ⟨Hx, Hw1, Hw2⟩, Ho, Hsend, Hcomm⟩
  isplitl [Hz Hsend Hcomm]
  · isplitl [Hz]; · unfold zeros; iexact Hz
    iapply (scratch_join c)
    isplitl [Hsend]; · iexact Hsend
    iexact Hcomm
  isplitl [HO]; · iapply (owing_elim m ρ c); iexact HO
  isplitl [Hx]; · iexact Hx
  isplitl [Hw1]; · iexact Hw1
  isplitl [Hw2]; · iexact Hw2
  iapply (rows_join c (outAt m ρ c) (total m ρ c) (outAt_row m ρ c)); iexact Ho

set_option maxRecDepth 8000 in
/-- The pipeline's obligation on the body. -/
theorem body_obligation (c : Dev nD) : BodyObligation (dats (F := F) m ρ 0 c) (defs₀ (F := F)) 𝒱₀ () Set.univ := fun t => by
  rw [show t = t0_0 from fin_N0 t]
  rw [bigSep_W0, bigSep_W0]
  show bodyPre m ρ c ⊢ run c (cc0_body xM (Memref.isWhole_whole _) w1M (Memref.isWhole_whole _) w2M (Memref.isWhole_whole _) oM (Memref.isWhole_whole _)
          sendM (Memref.isWhole_whole _) commM (Memref.isWhole_whole _) cc0_scratch2 cc0_scratch3) (fun _ => bodyPost m ρ c)
  iintro H
  ihave H := (enter m ρ c) $$ H
  icases H with ⟨%K, H⟩
  iapply (run_body m ρ K c fun _ => bodyPost m ρ c) $$ H
  iintro H
  iapply (leave m ρ c); iexact H

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- A whole buffer owned as its memref at some contents is its points-to at some contents. -/
theorem owns_any (c : Dev nD) (b : Ref sig .tc) : (iprop(∃ X, owns (c : Thread nD τ) (Memref.whole b) fullShare X) : sProp 𝕄)
    = iprop(∃ f : Buf (Elt F) ((c : Thread nD τ).loc b), ((c : Thread nD τ).loc b) ↦{fullShare} f) := by
  unfold owns
  simp only [Memref.view_whole, View.read_whole, View.set_whole]
  refine equiv_iff.mp ⟨show (_ : sProp 𝕄) ⊢ _ from ?_, show (_ : sProp 𝕄) ⊢ _ from ?_⟩
  · iintro ⟨%X, %f, -, H⟩; iexists f; iexact H
  · iintro ⟨%f, H⟩; iexists f; iexists f
    isplitr; · ipureintro; rfl
    iexact H

theorem scratch_eq (c : Dev nD) : (scratch c : sProp 𝕄) = Pipeline.scopedRest cfg0.spec c := by
  rw [scopedRest0_eq]
  unfold scratch
  rw [show (iprop(∃ X, owns (c : Thread nD τ) sendM fullShare X) : sProp 𝕄) = _ from owns_any c cc0_scratch0,
    show (iprop(∃ X, owns (c : Thread nD τ) commM fullShare X) : sProp 𝕄) = _ from owns_any c cc0_scratch1]

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scratch_eq, ownSems0_eq, unscopedSems0_eq]
  unfold Φ₁ zeros
  iintro ⟨⟨Hb, Hz⟩, Hs⟩
  isplitl [Hb]; · iexact Hb
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The arrays after the run. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters, the run ends with every device's arrays at `finalA` and
    every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllReduce

end
-- ==== Proof.Arrays.lean ====
/-
  What the four arrays hold after the run: the three arguments what they held, the result on every device the value its
  row blocks were left at. Each window is the whole array at its one grid point, so what the pipeline fetches is the array.
-/
module

public import proofs.«01_k».proof.Proof.Run
public import Idealize.ShloMosaic.Lib.Pipeline.Value

@[expose] public section

noncomputable section

namespace Cert.AllReduce

open Cert.KernelIdeal Cert.KernelIdeal.Gen
open Idealize.ShloMosaic Idealize.ShloMosaic.TcCoe Idealize.ShloMosaic.Pipeline
open Idealize.SL Idealize.SL.Sem

variable {F : FTy → Type} [FloatOps F] (m : (ℓ : Loc nD τ sig) → Buf (Elt F) ℓ) (ρ : Dev nD → PrngReg)

/-- The whole-array windows embed an index at itself. -/
theorem at_zero {s : Shape} {off : Fin s.rank → ℕ} (h : ∀ a, off a = 0) (inb : ∀ a, off a + s.size a ≤ s.size a) (i : s.Idx) :
    (Rect.unit off s.size inb).emb i = i :=
  funext fun a => Fin.ext (by simp [Rect.emb, Rect.unit, h a])

/-- The staged `x` is the argument. -/
theorem xIn_eq (c : Dev nD) : xIn m ρ c = m ((c : Thread nD τ).loc main_arg0) :=
  funext fun i => congrArg (m ((c : Thread nD τ).loc main_arg0)) (at_zero (s := S256x256) (by decide) _ i)

/-- The staged first weight is the argument, -/
theorem w1In_eq (c : Dev nD) : w1In m ρ c = m ((c : Thread nD τ).loc main_arg1) :=
  funext fun i => congrArg (m ((c : Thread nD τ).loc main_arg1)) (at_zero (s := S256x512) (by decide) _ i)

/-- and so is the second. -/
theorem w2In_eq (c : Dev nD) : w2In m ρ c = m ((c : Thread nD τ).loc main_arg2) :=
  funext fun i => congrArg (m ((c : Thread nD τ).loc main_arg2)) (at_zero (s := S512x256) (by decide) _ i)

/-- The loads of the weights read them whole. -/
theorem w1L_eq (c : Dev nD) : w1L m ρ c = m ((c : Thread nD τ).loc main_arg1) :=
  (funext fun i => congrArg (w1In m ρ c) (at_zero (s := S256x512) (by decide) _ i)).trans (w1In_eq m ρ c)
theorem w2L_eq (c : Dev nD) : w2L m ρ c = m ((c : Thread nD τ).loc main_arg2) :=
  (funext fun i => congrArg (w2In m ρ c) (at_zero (s := S512x256) (by decide) _ i)).trans (w2In_eq m ρ c)

/-- An argument's array ends as it began. -/
theorem finalA_arg (c : Dev nD) (w : Fin cfg0.W) (h : (cfg0.win w).isOut = false) :
    finalA m ρ c w = m ((cfg0.win w).arr.view.loc (c : Thread nD τ)) :=
  (dats (F := F) m ρ 0 c).arrAt_in w h _

/-- The result's array ends at the value its row blocks were left at. -/
theorem finalA_out (c : Dev nD) : finalA m ρ c (3 : Fin 4) = outAt m ρ c :=
  (dats (F := F) m ρ 0 c).arrAt_eq_of_cover (3 : Fin 4) (outAt m ρ c)
    (fun t _ => by
      obtain rfl := fin_N0 t
      exact funext fun i => congrArg (outAt m ρ c) (at_zero (s := S256x256) (by decide) (fun a => by fin_cases a <;> rfl) i).symm)
    (fun i => ⟨t0_0, flush0_3 _, by
      show i ∈ ((View.whole main_v1).slice (win0_3.rect t0_0)).set
      rw [View.set_slice_whole, Rect.mem_set_unit]
      intro a
      have := (i a).isLt
      fin_cases a <;> simpa [win0_3, Window.whole, Window.xsize, Window.index] using this⟩)

/-- Every final state of the run: the arguments as they were, the result at `outAt`, every counter at zero. -/
theorem run_arrays : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun _ h => ⟨fun c => ⟨(h.1 c (3 : Fin 4)).trans (finalA_out m ρ c),
      (h.1 c (0 : Fin 4)).trans (finalA_arg m ρ c (0 : Fin 4) rfl),
      (h.1 c (1 : Fin 4)).trans (finalA_arg m ρ c (1 : Fin 4) rfl),
      (h.1 c (2 : Fin 4)).trans (finalA_arg m ρ c (2 : Fin 4) rfl)⟩, h.2⟩)
    (run_main m ρ)

end Cert.AllReduce

end
-- ==== Proof.Perceptron.lean ====
/-
  The mathematics: a perceptron of one hidden layer over the extended reals, and how it falls apart. Cut along the hidden
  layer it is the sum of the parts; a row of its result is made of that row of `x`.
-/
module

public import Idealize.ShloMosaic.Lib.ValueIdxCore
public import Idealize.ShloMosaic.Lib.Layout
public import Mathlib.Data.EReal.Operations
public import Mathlib.Algebra.BigOperators.Fin

@[expose] public section

noncomputable section

namespace Cert.AllReduce

open Idealize.ShloMosaic Idealize.ShloMosaic.ValueIdx
open scoped BigOperators

/-- `max (x · w₁) 0 · w₂` at row `r` and column `c`. -/
def mlp {M K H N : ℕ} (x : (⟨2, ![M, K]⟩ : Shape).Idx → EReal) (w₁ : (⟨2, ![K, H]⟩ : Shape).Idx → EReal)
    (w₂ : (⟨2, ![H, N]⟩ : Shape).Idx → EReal) (r : Fin M) (c : Fin N) : EReal :=
  ∑ h : Fin H, max (∑ k : Fin K, x (ix2 r k) * w₁ (ix2 k h)) 0 * w₂ (ix2 h c)

/-- A row of the result reads one row of `x`. -/
theorem mlp_row {M M' K H N : ℕ} (x : (⟨2, ![M, K]⟩ : Shape).Idx → EReal) (x' : (⟨2, ![M', K]⟩ : Shape).Idx → EReal)
    (w₁ : (⟨2, ![K, H]⟩ : Shape).Idx → EReal) (w₂ : (⟨2, ![H, N]⟩ : Shape).Idx → EReal) (r : Fin M) (r' : Fin M') (c : Fin N)
    (h : ∀ k, x (ix2 r k) = x' (ix2 r' k)) : mlp x w₁ w₂ r c = mlp x' w₁ w₂ r' c := by
  unfold mlp; simp only [h]

/-- A sum over 2048 positions is the sum over four blocks of 512. -/
theorem sum_blocks (f : Fin 2048 → EReal) :
    ∑ h, f h = ∑ d : Fin 4, ∑ h : Fin 512, f ⟨d.val * 512 + h.val, by omega⟩ := by
  rw [← Fintype.sum_prod_type', ← (finProdFinEquiv (m := 4) (n := 512)).sum_comp f]
  exact Finset.sum_congr rfl fun p _ => congrArg f (Fin.ext (by simp [finProdFinEquiv]; omega))

/-- Cut along the hidden layer into four blocks, the perceptron is the sum of the four blocks' perceptrons. -/
theorem mlp_blocks (x : (⟨2, ![256, 256]⟩ : Shape).Idx → EReal) (W₁ : (⟨2, ![256, 2048]⟩ : Shape).Idx → EReal)
    (W₂ : (⟨2, ![2048, 256]⟩ : Shape).Idx → EReal) (r c : Fin 256) :
    mlp x W₁ W₂ r c = ∑ d : Fin 4, mlp x (Layout.block ⟨2, ![256, 512]⟩ ⟨2, ![256, 2048]⟩ 1 4 d W₁)
      (Layout.block ⟨2, ![512, 256]⟩ ⟨2, ![2048, 256]⟩ 0 4 d W₂) r c := by
  unfold mlp
  rw [sum_blocks]
  refine Finset.sum_congr rfl fun d _ => Finset.sum_congr rfl fun h _ => ?_
  have e₁ : ∀ k : Fin 256, Layout.block ⟨2, ![256, 512]⟩ ⟨2, ![256, 2048]⟩ 1 4 d W₁ (by decide) (ix2 k h)
      = W₁ (ix2 k ⟨d.val * 512 + h.val, by omega⟩) := fun k => congrArg W₁ (funext fun a => Fin.ext (by
    match a with
    | ⟨0, _⟩ => rfl
    | ⟨1, _⟩ => rfl))
  have e₂ : Layout.block ⟨2, ![512, 256]⟩ ⟨2, ![2048, 256]⟩ 0 4 d W₂ (by decide) (ix2 h c)
      = W₂ (ix2 ⟨d.val * 512 + h.val, by omega⟩ c) := congrArg W₂ (funext fun a => Fin.ext (by
    match a with
    | ⟨0, _⟩ => rfl
    | ⟨1, _⟩ => rfl))
  rw [e₂]; simp only [e₁]

end Cert.AllReduce

end
-- ==== Proof.Reference.lean ====
/-
  What the reference computes, at the ideal values: the perceptron of the whole arrays.
-/
module

public import proofs.«01_k».proof.Proof.Perceptron
public import proofs.«01_k».proof.Proof.Gen.ReferenceIdeal.Run
public import Idealize.ShloMosaic.Lib.StackMember

@[expose] public section

noncomputable section

namespace Cert.AllReduce

open Idealize.ShloMosaic Idealize.ShloMosaic.TcCoe Idealize.ShloMosaic.ValueIdx
open Cert.ReferenceIdeal Cert.ReferenceIdeal.Gen
open Idealize.SL.Sem
open scoped BigOperators

/-- The reference's operations composed: product, rectification, product. -/
def refOut (x : FVec Ideal S256x256 .f32) (W₁ : FVec Ideal S256x2048 .f32) (W₂ : FVec Ideal S2048x256 .f32) : FVec Ideal S256x256 .f32 :=
  Host.dotGeneral dot_S256x2048_S2048x256_S256x256_1_0_0_1_n_n none
    (maximumf (Host.dotGeneral dot_S256x256_S256x2048_S256x2048_1_0_0_1_n_n none x W₁)
      (broadcastInDim S256x2048 ![] bcast_S_S256x2048 (constant S_ .f32 0x00000000#32))) W₂

/-- Read at an index it is the perceptron. -/
theorem refOut_apply (x : FVec Ideal S256x256 .f32) (W₁ : FVec Ideal S256x2048 .f32) (W₂ : FVec Ideal S2048x256 .f32) (r c : Fin 256) :
    refOut x W₁ W₂ (ix2 r c) = mlp (M := 256) (K := 256) (H := 2048) (N := 256) x W₁ W₂ r c := by
  unfold refOut mlp
  refine (StackMember.dotGeneral_plain_apply (m := 256) (k := 2048) (n := 256) (φ₁ := .f32) (φ₂ := .f32) none _ W₂ r c).trans ?_
  refine Finset.sum_congr rfl fun h _ => congrArg (· * W₂ (ix2 h c)) ?_
  exact congrArg₂ max (StackMember.dotGeneral_plain_apply (m := 256) (k := 256) (n := 2048) (φ₁ := .f32) (φ₂ := .f32) none x W₁ r h)
    Ideal.ofBits_zero_f32

/-- From any memory the reference ends with its result at `refOut` of the arguments, the arguments as they were. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r =>
      r.2.mem (((0 : Dev nD) : Thread nD τ).loc main_v3) = refOut (m (((0 : Dev nD) : Thread nD τ).loc main_arg0))
          (m (((0 : Dev nD) : Thread nD τ).loc main_arg1)) (m (((0 : Dev nD) : Thread nD τ).loc main_arg2))
        ∧ r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)
        ∧ r.2.mem (((0 : Dev nD) : Thread nD τ).loc main_arg2) = m (((0 : Dev nD) : Thread nD τ).loc main_arg2) :=
  (θ_run (defs (F := Ideal)) _ _).mono (fun _ h => h 0) (Value.run (F := Ideal) m ρ)

end Cert.AllReduce

end
-- ==== Proof.Block.lean ====
/-
  What one device computes of one block of sixty-four rows, at the ideal values: the perceptron of its own blocks of the
  weights; narrowing, reshaping and widening it change nothing, so the steps of the exchange are sums.
-/
module

public import proofs.«01_k».proof.Proof.Protocol
public import proofs.«01_k».proof.Proof.Perceptron
public import Idealize.ShloMosaic.Lib.MatmulPlain
public import Idealize.ShloMosaic.Lib.Pipeline.Value

@[expose] public section

noncomputable section

namespace Cert.AllReduce

open Cert.KernelIdeal Cert.KernelIdeal.Gen
open Idealize.ShloMosaic Idealize.ShloMosaic.TcCoe Idealize.ShloMosaic.ValueIdx Idealize.ShloMosaic.Pipeline
open scoped BigOperators

/-- The product of a block of rows, rectified in between, is the perceptron. -/
theorem product_apply (x : Vec Ideal S64x256 .f32) (w₁ : Vec Ideal S256x512 .f32) (w₂ : Vec Ideal S512x256 .f32) (r : Fin 64) (c : Fin 256) :
    k0_pay1 x w₁ w₂ (ix2 r c) = mlp (M := 64) (K := 256) (H := 512) (N := 256) x w₁ w₂ r c := by
  unfold k0_pay1 mlp
  simp only [shapeCast_self]
  refine (Ideal.matmul_plain_apply (M := 64) (K := 512) (N := 256) (φ₁ := .f32) (φ₂ := .f32) none _ w₂ _ r c).trans ?_
  refine (congrArg₂ (· + ·) Ideal.ofBits_zero_f32 rfl).trans ((zero_add _).trans (Finset.sum_congr rfl fun h _ => congrArg (· * w₂ (ix2 h c)) ?_))
  refine congrArg₂ max ?_ Ideal.ofBits_zero_f32
  refine (Ideal.matmul_plain_apply (M := 64) (K := 256) (N := 512) (φ₁ := .f32) (φ₂ := .f32) none x w₁ _ r h).trans ?_
  exact (congrArg₂ (· + ·) Ideal.ofBits_zero_f32 rfl).trans (zero_add _)

/-- The payload received, read back at the wide format. -/
def widened (v : Vec Ideal S1x64x256 .bf16) : S64x256.Idx → EReal := shapeCast S64x256 v shapeCasts_S1x64x256_S64x256

variable (m : (ℓ : Loc nD τ sig) → Buf (Elt Ideal) ℓ) (ρ : Dev nD → PrngReg)

/-- A device's product of row block `j` is the perceptron of these rows and its weights. -/
theorem prod_apply (c : Dev nD) (j : Fin 4) (r : Fin 64) (l : Fin 256) :
    prod m ρ c j (ix2 r l) = mlp (M := 64) (K := 256) (H := 512) (N := 256) (xRow m ρ c j) (w1L m ρ c) (w2L m ρ c) r l :=
  match j with
  | 0 => product_apply _ _ _ r l
  | 1 => product_apply _ _ _ r l
  | 2 => product_apply _ _ _ r l
  | 3 => product_apply _ _ _ r l

/-- What is copied of it in the first exchange reads as the product itself. -/
theorem widened_half (c : Dev nD) (j : Fin 4) : widened (half m ρ c j) = prod m ρ c j :=
  match j with
  | 0 => shapeCast_shapeCast (k0_pay1 (xRow m ρ c 0) (w1L m ρ c) (w2L m ρ c)) _ _
  | 1 => shapeCast_shapeCast (k0_pay4 (xRow m ρ c 1) (w1L m ρ c) (w2L m ρ c)) _ _
  | 2 => shapeCast_shapeCast (k0_pay6 (xRow m ρ c 2) (w1L m ρ c) (w2L m ρ c)) _ _
  | 3 => shapeCast_shapeCast (k0_pay8 (xRow m ρ c 3) (w1L m ρ c) (w2L m ρ c)) _ _

/-- One step of the exchange adds what was received. -/
theorem add_step (v : Vec Ideal S64x256 .f32) (u : Vec Ideal S1x64x256 .bf16) (i : S64x256.Idx) :
    k0_pay10 v u i = (v i + widened u i : EReal) :=
  congrArg (fun w : S64x256.Idx → EReal => w i + widened u i) (shapeCast_self v _)

/-- The exchange with everyone adds the three that were received. -/
theorem four_step (v : Vec Ideal S64x256 .f32) (a b d : Vec Ideal S1x64x256 .bf16) (i : S64x256.Idx) :
    k0_pay20 v a b d i = (v i + widened a i + widened b i + widened d i : EReal) :=
  congrArg (fun w : S64x256.Idx → EReal => w i + widened a i + widened b i + widened d i) (shapeCast_self v _)

/-- After the first exchange the first three row blocks hold two devices' products, -/
theorem pair_apply (c : Dev nD) (j : Fin 3) (i : S64x256.Idx) :
    pair m ρ c j i = (prod m ρ c j.castSucc i + prod m ρ (peer 0 c) j.castSucc i : EReal) :=
  match j with
  | 0 => (add_step _ _ i).trans (by rw [widened_half]; rfl)
  | 1 => (add_step _ _ i).trans (by rw [widened_half]; rfl)
  | 2 => (add_step _ _ i).trans (by rw [widened_half]; rfl)

/-- and what is copied of that in the second exchange reads as the same. -/
theorem widened_pairHalf (c : Dev nD) (j : Fin 3) : widened (pairHalf m ρ c j) = pair m ρ c j :=
  match j with
  | 0 => shapeCast_shapeCast (pair m ρ c 0) _ _
  | 1 => shapeCast_shapeCast (pair m ρ c 1) _ _
  | 2 => shapeCast_shapeCast (pair m ρ c 2) _ _

/-- The two exchanges add up the four devices, -/
theorem sum_exchange (f : Dev nD → EReal) (c : Dev nD) :
    (f c + f (peer 0 c)) + (f (peer 1 c) + f (peer 0 (peer 1 c))) = ∑ d : Fin 4, f d := by
  rw [Fin.sum_univ_four]
  match c with
  | 0 => show (f 0 + f 1) + (f 3 + f 2) = f 0 + f 1 + f 2 + f 3; ac_rfl
  | 1 => show (f 1 + f 0) + (f 2 + f 3) = f 0 + f 1 + f 2 + f 3; ac_rfl
  | 2 => show (f 2 + f 3) + (f 1 + f 0) = f 0 + f 1 + f 2 + f 3; ac_rfl
  | 3 => show (f 3 + f 2) + (f 0 + f 1) = f 0 + f 1 + f 2 + f 3; ac_rfl

/-- and so does the one exchange with everyone. -/
theorem sum_everyone (f : Dev nD → EReal) (c : Dev nD) :
    f c + f (peer 0 c) + f (peer 1 c) + f (peer 2 c) = ∑ d : Fin 4, f d := by
  rw [Fin.sum_univ_four]
  match c with
  | 0 => show f 0 + f 1 + f 3 + f 2 = f 0 + f 1 + f 2 + f 3; ac_rfl
  | 1 => show f 1 + f 0 + f 2 + f 3 = f 0 + f 1 + f 2 + f 3; ac_rfl
  | 2 => show f 2 + f 3 + f 1 + f 0 = f 0 + f 1 + f 2 + f 3; ac_rfl
  | 3 => show f 3 + f 2 + f 0 + f 1 = f 0 + f 1 + f 2 + f 3; ac_rfl

/-- The total of a row block is the sum of the four devices' products. -/
theorem total_apply (c : Dev nD) (j : Fin 4) (i : S64x256.Idx) :
    total m ρ c j i = ∑ d : Fin 4, (prod m ρ d j i : EReal) := by
  have two : ∀ k : Fin 3, (pair m ρ c k i + widened (pairHalf m ρ (peer 1 c) k) i : EReal) = ∑ d : Fin 4, (prod m ρ d k.castSucc i : EReal) := fun k => by
    rw [widened_pairHalf, pair_apply, pair_apply]
    exact sum_exchange (fun d => prod m ρ d k.castSucc i) c
  match j with
  | 0 => exact (add_step _ _ i).trans (two 0)
  | 1 => exact (add_step _ _ i).trans (two 1)
  | 2 => exact (add_step _ _ i).trans (two 2)
  | 3 =>
    refine (four_step _ _ _ _ i).trans ?_
    rw [widened_half, widened_half, widened_half]
    exact sum_everyone (fun d => prod m ρ d 3 i) c

end Cert.AllReduce

end
-- ==== Proof.Equation.lean ====
/-
  The equation: when every device holds `x` whole and its blocks of the two weights, every device's result is what the
  reference computes of the whole arrays.
-/
module

public import proofs.«01_k».proof.Proof.Arrays
public import proofs.«01_k».proof.Proof.Block
public import proofs.«01_k».proof.Proof.Reference

@[expose] public section

noncomputable section

namespace Cert.AllReduce

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (ρ : Dev nD → PrngReg)

/-- Row `r` of row block `t` is row `64 t + r` of the array. -/
theorem rowRect_emb (t : Fin 4) (r : Fin 64) (l : Fin 256) :
    (rowRect t).emb (ix2 r l) = (ix2 ⟨64 * t.val + r.val, by omega⟩ l : S256x256.Idx) :=
  funext fun a => Fin.ext (by
    match a with
    | ⟨0, _⟩ => simp [rowRect, Rect.emb, Rect.unit]
    | ⟨1, _⟩ => simp [rowRect, Rect.emb, Rect.unit])

/-- Every device's result at row `64 t + r` and column `l` is the perceptron of the whole arrays there. -/
theorem outAt_apply (x : FVec Ideal S256x256 .f32) (W₁ : (⟨2, ![256, 2048]⟩ : Shape).Idx → EReal) (W₂ : (⟨2, ![2048, 256]⟩ : Shape).Idx → EReal)
    (hx : ∀ d : Dev nD, m ((d : Thread nD τ).loc main_arg0) = x)
    (h₁ : ∀ d : Dev nD, m ((d : Thread nD τ).loc main_arg1) = Layout.block ⟨2, ![256, 512]⟩ ⟨2, ![256, 2048]⟩ 1 4 d W₁)
    (h₂ : ∀ d : Dev nD, m ((d : Thread nD τ).loc main_arg2) = Layout.block ⟨2, ![512, 256]⟩ ⟨2, ![2048, 256]⟩ 0 4 d W₂)
    (c : Dev nD) (t : Fin 4) (r : Fin 64) (l : Fin 256) :
    outAt m ρ c ((rowRect t).emb (ix2 r l))
      = mlp (M := 256) (K := 256) (H := 2048) (N := 256) x W₁ W₂ ⟨64 * t.val + r.val, by omega⟩ l := by
  rw [outAt_row, total_apply, mlp_blocks]
  refine Finset.sum_congr rfl fun d _ => ?_
  rw [prod_apply, w1L_eq, w2L_eq, h₁, h₂]
  refine mlp_row _ _ _ _ _ _ _ fun k => ?_
  show xIn m ρ d ((rowRect t).emb (ix2 r k)) = _
  rw [xIn_eq, hx, rowRect_emb]

/-- Every device's result is what the reference computes. -/
theorem outAt_eq (x : FVec Ideal S256x256 .f32) (W₁ : (⟨2, ![256, 2048]⟩ : Shape).Idx → EReal) (W₂ : (⟨2, ![2048, 256]⟩ : Shape).Idx → EReal)
    (hx : ∀ d : Dev nD, m ((d : Thread nD τ).loc main_arg0) = x)
    (h₁ : ∀ d : Dev nD, m ((d : Thread nD τ).loc main_arg1) = Layout.block ⟨2, ![256, 512]⟩ ⟨2, ![256, 2048]⟩ 1 4 d W₁)
    (h₂ : ∀ d : Dev nD, m ((d : Thread nD τ).loc main_arg2) = Layout.block ⟨2, ![512, 256]⟩ ⟨2, ![2048, 256]⟩ 0 4 d W₂)
    (c : Dev nD) : outAt m ρ c = refOut x W₁ W₂ := by
  funext i
  have h0 : (i 0).val < 256 := (i 0).isLt
  obtain ⟨t, r, l, rfl⟩ : ∃ (t : Fin 4) (r : Fin 64) (l : Fin 256), i = (rowRect t).emb (ix2 r l) :=
    ⟨⟨(i 0).val / 64, by omega⟩, ⟨(i 0).val % 64, by omega⟩, i 1, by
      refine ((eq_ix2 i).trans (congrArg (fun a : Fin 256 => (ix2 a (i 1) : S256x256.Idx)) (Fin.ext ?_))).trans
        (rowRect_emb ⟨(i 0).val / 64, by omega⟩ ⟨(i 0).val % 64, by omega⟩ (i 1)).symm
      show (i 0).val = 64 * ((i 0).val / 64) + (i 0).val % 64
      omega⟩
  rw [outAt_apply m ρ x W₁ W₂ hx h₁ h₂, rowRect_emb, refOut_apply]

end Cert.AllReduce

end
-- ==== Proof.lean ====
/-
  The proof of `Cert.Claim`: the frames of the kernel and of its ideal reading, both from the one run proved for any float
  values (`run_arrays`); the reference's frame; and the equation of the two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.SameText
public import proofs.«01_k».proof.Proof.Arrays
public import proofs.«01_k».proof.Proof.Reference
public import proofs.«01_k».proof.Proof.Equation

@[expose] public section

noncomputable section

namespace Cert.Proof

open Idealize.ShloMosaic Idealize.ShloMosaic.TcCoe Idealize.SL.Sem

/-- The kernel at the machine's floats: the run holds for any float values, and the two programs are one text. -/
theorem frame_kernel : Cert.quiescent_Kernel := fun m ρ _ => by
  rw [← Cert.AllReduce.defs_same]
  exact (θ_run Cert.KernelIdeal.defs _ _).mono (fun _ h => ⟨fun c => (h.1 c).2, h.2⟩) (Cert.AllReduce.run_arrays (F := Bits) m ρ)

/-- The kernel at the ideal values. -/
theorem frame_kernelIdeal : Cert.quiescent_KernelIdeal := fun m ρ _ =>
  (θ_run Cert.KernelIdeal.defs _ _).mono (fun _ h => ⟨fun c => (h.1 c).2, h.2⟩) (Cert.AllReduce.run_arrays (F := Ideal) m ρ)

/-- The reference is host operations one after another and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On every device the kernel ends with the reference's result. -/
theorem value : Cert.algebraic_KernelIdeal_ReferenceIdeal := fun m ρ m' ρ' _ hag =>
  ⟨_, (θ_run Cert.KernelIdeal.defs _ _).mono
      (fun _ h c => ⟨(h.1 c).1.trans (Cert.AllReduce.outAt_eq m ρ _ _ _ (fun d => (hag d).1) (fun d => (hag d).2.1) (fun d => (hag d).2.2) c),
        (h.1 c).2⟩)
      (Cert.AllReduce.run_arrays (F := Ideal) m ρ),
    Cert.AllReduce.run_reference m' ρ'⟩

/-- The five claims, after the facts the programs state. -/
theorem claim : Cert.Claim :=
  ⟨Cert.Kernel.Gen.facts, Cert.KernelIdeal.Gen.facts, Cert.ReferenceIdeal.Gen.facts,
    frame_kernel, frame_kernelIdeal, frame_reference, trivial, value⟩

end Cert.Proof

end
